-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelEven (m : (ℓ : Loc Cert.KernelEven.nD Cert.KernelEven.τ Cert.KernelEven.sig) → Buf (Elt Bits) ℓ) : Prop :=
  True

def Pre_KernelEvenIdeal (m : (ℓ : Loc Cert.KernelEvenIdeal.nD Cert.KernelEvenIdeal.τ Cert.KernelEvenIdeal.sig) → Buf (Elt Ideal) ℓ) : Prop :=
  True

def Pre_ReferenceEvenIdeal (m : (ℓ : Loc Cert.ReferenceEvenIdeal.nD Cert.ReferenceEvenIdeal.τ Cert.ReferenceEvenIdeal.sig) → Buf (Elt Ideal) ℓ) : Prop :=
  True

def Pre_KernelOdd (m : (ℓ : Loc Cert.KernelOdd.nD Cert.KernelOdd.τ Cert.KernelOdd.sig) → Buf (Elt Bits) ℓ) : Prop :=
  True

def Pre_KernelOddIdeal (m : (ℓ : Loc Cert.KernelOddIdeal.nD Cert.KernelOddIdeal.τ Cert.KernelOddIdeal.sig) → Buf (Elt Ideal) ℓ) : Prop :=
  True

def Pre_ReferenceOddIdeal (m : (ℓ : Loc Cert.ReferenceOddIdeal.nD Cert.ReferenceOddIdeal.τ Cert.ReferenceOddIdeal.sig) → Buf (Elt Ideal) ℓ) : Prop :=
  True

def Pre_KernelFirst (m : (ℓ : Loc Cert.KernelFirst.nD Cert.KernelFirst.τ Cert.KernelFirst.sig) → Buf (Elt Bits) ℓ) : Prop :=
  True

def Pre_KernelFirstIdeal (m : (ℓ : Loc Cert.KernelFirstIdeal.nD Cert.KernelFirstIdeal.τ Cert.KernelFirstIdeal.sig) → Buf (Elt Ideal) ℓ) : Prop :=
  True

def Pre_ReferenceFirstIdeal (m : (ℓ : Loc Cert.ReferenceFirstIdeal.nD Cert.ReferenceFirstIdeal.τ Cert.ReferenceFirstIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6)
      ∧ r.2.mem ((c.tc : Thread Cert.KernelFfn.nD Cert.KernelFfn.τ).loc Cert.KernelFfn.main_arg7) = m ((c.tc : Thread Cert.KernelFfn.nD Cert.KernelFfn.τ).loc Cert.KernelFfn.main_arg7)
      ∧ r.2.mem ((c.tc : Thread Cert.KernelFfn.nD Cert.KernelFfn.τ).loc Cert.KernelFfn.main_arg8) = m ((c.tc : Thread Cert.KernelFfn.nD Cert.KernelFfn.τ).loc Cert.KernelFfn.main_arg8)
      ∧ r.2.mem ((c.tc : Thread Cert.KernelFfn.nD Cert.KernelFfn.τ).loc Cert.KernelFfn.main_arg9) = m ((c.tc : Thread Cert.KernelFfn.nD Cert.KernelFfn.τ).loc Cert.KernelFfn.main_arg9))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
      ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
      ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
      ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5)
      ∧ r.2.mem ((c.tc : Thread Cert.ReferenceFfnIdeal.nD Cert.ReferenceFfnIdeal.τ).loc Cert.ReferenceFfnIdeal.main_arg6) = m ((c.tc : Thread Cert.ReferenceFfnIdeal.nD Cert.ReferenceFfnIdeal.τ).loc Cert.ReferenceFfnIdeal.main_arg6)
      ∧ r.2.mem ((c.tc : Thread Cert.ReferenceFfnIdeal.nD Cert.ReferenceFfnIdeal.τ).loc Cert.ReferenceFfnIdeal.main_arg7) = m ((c.tc : Thread Cert.ReferenceFfnIdeal.nD Cert.ReferenceFfnIdeal.τ).loc Cert.ReferenceFfnIdeal.main_arg7)
      ∧ r.2.mem ((c.tc : Thread Cert.ReferenceFfnIdeal.nD Cert.ReferenceFfnIdeal.τ).loc Cert.ReferenceFfnIdeal.main_arg8) = m ((c.tc : Thread Cert.ReferenceFfnIdeal.nD Cert.ReferenceFfnIdeal.τ).loc Cert.ReferenceFfnIdeal.main_arg8)
      ∧ r.2.mem ((c.tc : Thread Cert.ReferenceFfnIdeal.nD Cert.ReferenceFfnIdeal.τ).loc Cert.ReferenceFfnIdeal.main_arg9) = m ((c.tc : Thread Cert.ReferenceFfnIdeal.nD Cert.ReferenceFfnIdeal.τ).loc Cert.ReferenceFfnIdeal.main_arg9))
      ∧ r.2.sem = fun _ => 0)

def quiescent_KernelEven [hKernelEven : Cert.KernelEven.Facts] : Prop :=
  ∀ (m : (ℓ : Loc Cert.KernelEven.nD Cert.KernelEven.τ Cert.KernelEven.sig) → Buf (Elt Bits) ℓ) (g : Dev Cert.KernelEven.nD → PrngReg), Pre_KernelEven m →
    θ_run (Cert.KernelEven.defs (F := Bits)) (onTc (τ := Cert.KernelEven.τ) (Cert.KernelEven.main (F := Bits))) ⟨m, fun _ => 0, g⟩ (fun r => (∀ c : Dev Cert.KernelEven.nD,
      r.2.mem ((c.tc : Thread Cert.KernelEven.nD Cert.KernelEven.τ).loc Cert.KernelEven.main_arg0) = m ((c.tc : Thread Cert.KernelEven.nD Cert.KernelEven.τ).loc Cert.KernelEven.main_arg0)
      ∧ r.2.mem ((c.tc : Thread Cert.KernelEven.nD Cert.KernelEven.τ).loc Cert.KernelEven.main_arg1) = m ((c.tc : Thread Cert.KernelEven.nD Cert.KernelEven.τ).loc Cert.KernelEven.main_arg1)
      ∧ r.2.mem ((c.tc : Thread Cert.KernelEven.nD Cert.KernelEven.τ).loc Cert.KernelEven.main_arg2) = m ((c.tc : Thread Cert.KernelEven.nD Cert.KernelEven.τ).loc Cert.KernelEven.main_arg2)
      ∧ r.2.mem ((c.tc : Thread Cert.KernelEven.nD Cert.KernelEven.τ).loc Cert.KernelEven.main_arg3) = m ((c.tc : Thread Cert.KernelEven.nD Cert.KernelEven.τ).loc Cert.KernelEven.main_arg3)
      ∧ r.2.mem ((c.tc : Thread Cert.KernelEven.nD Cert.KernelEven.τ).loc Cert.KernelEven.main_arg4) = m ((c.tc : Thread Cert.KernelEven.nD Cert.KernelEven.τ).loc Cert.KernelEven.main_arg4)
      ∧ r.2.mem ((c.tc : Thread Cert.KernelEven.nD Cert.KernelEven.τ).loc Cert.KernelEven.main_arg5) = m ((c.tc : Thread Cert.KernelEven.nD Cert.KernelEven.τ).loc Cert.KernelEven.main_arg5)
      ∧ r.2.mem ((c.tc : Thread Cert.KernelEven.nD Cert.KernelEven.τ).loc Cert.KernelEven.main_arg6) = m ((c.tc : Thread Cert.KernelEven.nD Cert.KernelEven.τ).loc Cert.KernelEven.main_arg6)
      ∧ r.2.mem ((c.tc : Thread Cert.KernelEven.nD Cert.KernelEven.τ).loc Cert.KernelEven.main_arg7) = m ((c.tc : Thread Cert.KernelEven.nD Cert.KernelEven.τ).loc Cert.KernelEven.main_arg7)
      ∧ r.2.mem ((c.tc : Thread Cert.KernelEven.nD Cert.KernelEven.τ).loc Cert.KernelEven.main_arg8) = m ((c.tc : Thread Cert.KernelEven.nD Cert.KernelEven.τ).loc Cert.KernelEven.main_arg8)
      ∧ r.2.mem ((c.tc : Thread Cert.KernelEven.nD Cert.KernelEven.τ).loc Cert.KernelEven.main_arg9) = m ((c.tc : Thread Cert.KernelEven.nD Cert.KernelEven.τ).loc Cert.KernelEven.main_arg9))
      ∧ r.2.sem = fun _ => 0)

def quiescent_KernelEvenIdeal [hKernelEvenIdeal : Cert.KernelEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg), Pre_KernelEvenIdeal m →
    θ_run (Cert.KernelEvenIdeal.defs (F := Ideal)) (onTc (τ := Cert.KernelEvenIdeal.τ) (Cert.KernelEvenIdeal.main (F := Ideal))) ⟨m, fun _ => 0, g⟩ (fun r => (∀ c : Dev Cert.KernelEvenIdeal.nD,
      r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
      ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
      ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
      ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3)
      ∧ r.2.mem ((c.tc : Thread Cert.KernelEvenIdeal.nD Cert.KernelEvenIdeal.τ).loc Cert.KernelEvenIdeal.main_arg4) = m ((c.tc : Thread Cert.KernelEvenIdeal.nD Cert.KernelEvenIdeal.τ).loc Cert.KernelEvenIdeal.main_arg4)
      ∧ r.2.mem ((c.tc : Thread Cert.KernelEvenIdeal.nD Cert.KernelEvenIdeal.τ).loc Cert.KernelEvenIdeal.main_arg5) = m ((c.tc : Thread Cert.KernelEvenIdeal.nD Cert.KernelEvenIdeal.τ).loc Cert.KernelEvenIdeal.main_arg5)
      ∧ r.2.mem ((c.tc : Thread Cert.KernelEvenIdeal.nD Cert.KernelEvenIdeal.τ).loc Cert.KernelEvenIdeal.main_arg6) = m ((c.tc : Thread Cert.KernelEvenIdeal.nD Cert.KernelEvenIdeal.τ).loc Cert.KernelEvenIdeal.main_arg6)
      ∧ r.2.mem ((c.tc : Thread Cert.KernelEvenIdeal.nD Cert.KernelEvenIdeal.τ).loc Cert.KernelEvenIdeal.main_arg7) = m ((c.tc : Thread Cert.KernelEvenIdeal.nD Cert.KernelEvenIdeal.τ).loc Cert.KernelEvenIdeal.main_arg7)
      ∧ r.2.mem ((c.tc : Thread Cert.KernelEvenIdeal.nD Cert.KernelEvenIdeal.τ).loc Cert.KernelEvenIdeal.main_arg8) = m ((c.tc : Thread Cert.KernelEvenIdeal.nD Cert.KernelEvenIdeal.τ).loc Cert.KernelEvenIdeal.main_arg8)
      ∧ r.2.mem ((c.tc : Thread Cert.KernelEvenIdeal.nD Cert.KernelEvenIdeal.τ).loc Cert.KernelEvenIdeal.main_arg9) = m ((c.tc : Thread Cert.KernelEvenIdeal.nD Cert.KernelEvenIdeal.τ).loc Cert.KernelEvenIdeal.main_arg9))
      ∧ r.2.sem = fun _ => 0)

def quiescent_ReferenceEvenIdeal [hReferenceEvenIdeal : Cert.ReferenceEvenIdeal.Facts] : Prop :=
  ∀ (m : (ℓ : Loc Cert.ReferenceEvenIdeal.nD Cert.ReferenceEvenIdeal.τ Cert.ReferenceEvenIdeal.sig) → Buf (Elt Ideal) ℓ) (g : Dev Cert.ReferenceEvenIdeal.nD → PrngReg), Pre_ReferenceEvenIdeal m →
    θ_run (Cert.ReferenceEvenIdeal.defs (F := Ideal)) (onTc (τ := Cert.ReferenceEvenIdeal.τ) (Cert.ReferenceEvenIdeal.main (F := Ideal))) ⟨m, fun _ => 0, g⟩ (fun r => (∀ c : Dev Cert.ReferenceEvenIdeal.nD,
      r.2.mem ((c.tc : Thread Cert.ReferenceEvenIdeal.nD Cert.ReferenceEvenIdeal.τ).loc Cert.ReferenceEvenIdeal.main_arg0) = m ((c.tc : Thread Cert.ReferenceEvenIdeal.nD Cert.ReferenceEvenIdeal.τ).loc Cert.ReferenceEvenIdeal.main_arg0)
      ∧ r.2.mem ((c.tc : Thread Cert.ReferenceEvenIdeal.nD Cert.ReferenceEvenIdeal.τ).loc Cert.ReferenceEvenIdeal.main_arg1) = m ((c.tc : Thread Cert.ReferenceEvenIdeal.nD Cert.ReferenceEvenIdeal.τ).loc Cert.ReferenceEvenIdeal.main_arg1)
      ∧ r.2.mem ((c.tc : Thread Cert.ReferenceEvenIdeal.nD Cert.ReferenceEvenIdeal.τ).loc Cert.ReferenceEvenIdeal.main_arg2) = m ((c.tc : Thread Cert.ReferenceEvenIdeal.nD Cert.ReferenceEvenIdeal.τ).loc Cert.ReferenceEvenIdeal.main_arg2)
      ∧ r.2.mem ((c.tc : Thread Cert.ReferenceEvenIdeal.nD Cert.ReferenceEvenIdeal.τ).loc Cert.ReferenceEvenIdeal.main_arg3) = m ((c.tc : Thread Cert.ReferenceEvenIdeal.nD Cert.ReferenceEvenIdeal.τ).loc Cert.ReferenceEvenIdeal.main_arg3)
      ∧ r.2.mem ((c.tc : Thread Cert.ReferenceEvenIdeal.nD Cert.ReferenceEvenIdeal.τ).loc Cert.ReferenceEvenIdeal.main_arg4) = m ((c.tc : Thread Cert.ReferenceEvenIdeal.nD Cert.ReferenceEvenIdeal.τ).loc Cert.ReferenceEvenIdeal.main_arg4)
      ∧ r.2.mem ((c.tc : Thread Cert.ReferenceEvenIdeal.nD Cert.ReferenceEvenIdeal.τ).loc Cert.ReferenceEvenIdeal.main_arg5) = m ((c.tc : Thread Cert.ReferenceEvenIdeal.nD Cert.ReferenceEvenIdeal.τ).loc Cert.ReferenceEvenIdeal.main_arg5)
      ∧ r.2.mem ((c.tc : Thread Cert.ReferenceEvenIdeal.nD Cert.ReferenceEvenIdeal.τ).loc Cert.ReferenceEvenIdeal.main_arg6) = m ((c.tc : Thread Cert.ReferenceEvenIdeal.nD Cert.ReferenceEvenIdeal.τ).loc Cert.ReferenceEvenIdeal.main_arg6)
      ∧ r.2.mem ((c.tc : Thread Cert.ReferenceEvenIdeal.nD Cert.ReferenceEvenIdeal.τ).loc Cert.ReferenceEvenIdeal.main_arg7) = m ((c.tc : Thread Cert.ReferenceEvenIdeal.nD Cert.ReferenceEvenIdeal.τ).loc Cert.ReferenceEvenIdeal.main_arg7)
      ∧ r.2.mem ((c.tc : Thread Cert.ReferenceEvenIdeal.nD Cert.ReferenceEvenIdeal.τ).loc Cert.ReferenceEvenIdeal.main_arg8) = m ((c.tc : Thread Cert.ReferenceEvenIdeal.nD Cert.ReferenceEvenIdeal.τ).loc Cert.ReferenceEvenIdeal.main_arg8)
      ∧ r.2.mem ((c.tc : Thread Cert.ReferenceEvenIdeal.nD Cert.ReferenceEvenIdeal.τ).loc Cert.ReferenceEvenIdeal.main_arg9) = m ((c.tc : Thread Cert.ReferenceEvenIdeal.nD Cert.ReferenceEvenIdeal.τ).loc Cert.ReferenceEvenIdeal.main_arg9))
      ∧ r.2.sem = fun _ => 0)

def quiescent_KernelOdd [hKernelOdd : Cert.KernelOdd.Facts] : Prop :=
  ∀ (m : (ℓ : Loc Cert.KernelOdd.nD Cert.KernelOdd.τ Cert.KernelOdd.sig) → Buf (Elt Bits) ℓ) (g : Dev Cert.KernelOdd.nD → PrngReg), Pre_KernelOdd m →
    θ_run (Cert.KernelOdd.defs (F := Bits)) (onTc (τ := Cert.KernelOdd.τ) (Cert.KernelOdd.main (F := Bits))) ⟨m, fun _ => 0, g⟩ (fun r => (∀ c : Dev Cert.KernelOdd.nD,
      r.2.mem ((c.tc : Thread Cert.KernelOdd.nD Cert.KernelOdd.τ).loc Cert.KernelOdd.main_arg0) = m ((c.tc : Thread Cert.KernelOdd.nD Cert.KernelOdd.τ).loc Cert.KernelOdd.main_arg0)
      ∧ r.2.mem ((c.tc : Thread Cert.KernelOdd.nD Cert.KernelOdd.τ).loc Cert.KernelOdd.main_arg1) = m ((c.tc : Thread Cert.KernelOdd.nD Cert.KernelOdd.τ).loc Cert.KernelOdd.main_arg1)
      ∧ r.2.mem ((c.tc : Thread Cert.KernelOdd.nD Cert.KernelOdd.τ).loc Cert.KernelOdd.main_arg2) = m ((c.tc : Thread Cert.KernelOdd.nD Cert.KernelOdd.τ).loc Cert.KernelOdd.main_arg2)
      ∧ r.2.mem ((c.tc : Thread Cert.KernelOdd.nD Cert.KernelOdd.τ).loc Cert.KernelOdd.main_arg3) = m ((c.tc : Thread Cert.KernelOdd.nD Cert.KernelOdd.τ).loc Cert.KernelOdd.main_arg3)
      ∧ r.2.mem ((c.tc : Thread Cert.KernelOdd.nD Cert.KernelOdd.τ).loc Cert.KernelOdd.main_arg4) = m ((c.tc : Thread Cert.KernelOdd.nD Cert.KernelOdd.τ).loc Cert.KernelOdd.main_arg4)
      ∧ r.2.mem ((c.tc : Thread Cert.KernelOdd.nD Cert.KernelOdd.τ).loc Cert.KernelOdd.main_arg5) = m ((c.tc : Thread Cert.KernelOdd.nD Cert.KernelOdd.τ).loc Cert.KernelOdd.main_arg5))
      ∧ r.2.sem = fun _ => 0)

def quiescent_KernelOddIdeal [hKernelOddIdeal : Cert.KernelOddIdeal.Facts] : Prop :=
  ∀ (m : (ℓ : Loc Cert.KernelOddIdeal.nD Cert.KernelOddIdeal.τ Cert.KernelOddIdeal.sig) → Buf (Elt Ideal) ℓ) (g : Dev Cert.KernelOddIdeal.nD → PrngReg), Pre_KernelOddIdeal m →
    θ_run (Cert.KernelOddIdeal.defs (F := Ideal)) (onTc (τ := Cert.KernelOddIdeal.τ) (Cert.KernelOddIdeal.main (F := Ideal))) ⟨m, fun _ => 0, g⟩ (fun r => (∀ c : Dev Cert.KernelOddIdeal.nD,
      r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
      ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
      ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2)
      ∧ r.2.mem ((c.tc : Thread Cert.KernelOddIdeal.nD Cert.KernelOddIdeal.τ).loc Cert.KernelOddIdeal.main_arg3) = m ((c.tc : Thread Cert.KernelOddIdeal.nD Cert.KernelOddIdeal.τ).loc Cert.KernelOddIdeal.main_arg3)
      ∧ r.2.mem ((c.tc : Thread Cert.KernelOddIdeal.nD Cert.KernelOddIdeal.τ).loc Cert.KernelOddIdeal.main_arg4) = m ((c.tc : Thread Cert.KernelOddIdeal.nD Cert.KernelOddIdeal.τ).loc Cert.KernelOddIdeal.main_arg4)
      ∧ r.2.mem ((c.tc : Thread Cert.KernelOddIdeal.nD Cert.KernelOddIdeal.τ).loc Cert.KernelOddIdeal.main_arg5) = m ((c.tc : Thread Cert.KernelOddIdeal.nD Cert.KernelOddIdeal.τ).loc Cert.KernelOddIdeal.main_arg5))
      ∧ r.2.sem = fun _ => 0)

def quiescent_ReferenceOddIdeal [hReferenceOddIdeal : Cert.ReferenceOddIdeal.Facts] : Prop :=
  ∀ (m : (ℓ : Loc Cert.ReferenceOddIdeal.nD Cert.ReferenceOddIdeal.τ Cert.ReferenceOddIdeal.sig) → Buf (Elt Ideal) ℓ) (g : Dev Cert.ReferenceOddIdeal.nD → PrngReg), Pre_ReferenceOddIdeal m →
    θ_run (Cert.ReferenceOddIdeal.defs (F := Ideal)) (onTc (τ := Cert.ReferenceOddIdeal.τ) (Cert.ReferenceOddIdeal.main (F := Ideal))) ⟨m, fun _ => 0, g⟩ (fun r => (∀ c : Dev Cert.ReferenceOddIdeal.nD,
      r.2.mem ((c.tc : Thread Cert.ReferenceOddIdeal.nD Cert.ReferenceOddIdeal.τ).loc Cert.ReferenceOddIdeal.main_arg0) = m ((c.tc : Thread Cert.ReferenceOddIdeal.nD Cert.ReferenceOddIdeal.τ).loc Cert.ReferenceOddIdeal.main_arg0)
      ∧ r.2.mem ((c.tc : Thread Cert.ReferenceOddIdeal.nD Cert.ReferenceOddIdeal.τ).loc Cert.ReferenceOddIdeal.main_arg1) = m ((c.tc : Thread Cert.ReferenceOddIdeal.nD Cert.ReferenceOddIdeal.τ).loc Cert.ReferenceOddIdeal.main_arg1)
      ∧ r.2.mem ((c.tc : Thread Cert.ReferenceOddIdeal.nD Cert.ReferenceOddIdeal.τ).loc Cert.ReferenceOddIdeal.main_arg2) = m ((c.tc : Thread Cert.ReferenceOddIdeal.nD Cert.ReferenceOddIdeal.τ).loc Cert.ReferenceOddIdeal.main_arg2)
      ∧ r.2.mem ((c.tc : Thread Cert.ReferenceOddIdeal.nD Cert.ReferenceOddIdeal.τ).loc Cert.ReferenceOddIdeal.main_arg3) = m ((c.tc : Thread Cert.ReferenceOddIdeal.nD Cert.ReferenceOddIdeal.τ).loc Cert.ReferenceOddIdeal.main_arg3)
      ∧ r.2.mem ((c.tc : Thread Cert.ReferenceOddIdeal.nD Cert.ReferenceOddIdeal.τ).loc Cert.ReferenceOddIdeal.main_arg4) = m ((c.tc : Thread Cert.ReferenceOddIdeal.nD Cert.ReferenceOddIdeal.τ).loc Cert.ReferenceOddIdeal.main_arg4)
      ∧ r.2.mem ((c.tc : Thread Cert.ReferenceOddIdeal.nD Cert.ReferenceOddIdeal.τ).loc Cert.ReferenceOddIdeal.main_arg5) = m ((c.tc : Thread Cert.ReferenceOddIdeal.nD Cert.ReferenceOddIdeal.τ).loc Cert.ReferenceOddIdeal.main_arg5))
      ∧ r.2.sem = fun _ => 0)

def quiescent_KernelFirst [hKernelFirst : Cert.KernelFirst.Facts] : Prop :=
  ∀ (m : (ℓ : Loc Cert.KernelFirst.nD Cert.KernelFirst.τ Cert.KernelFirst.sig) → Buf (Elt Bits) ℓ) (g : Dev Cert.KernelFirst.nD → PrngReg), Pre_KernelFirst m →
    θ_run (Cert.KernelFirst.defs (F := Bits)) (onTc (τ := Cert.KernelFirst.τ) (Cert.KernelFirst.main (F := Bits))) ⟨m, fun _ => 0, g⟩ (fun r => (∀ c : Dev Cert.KernelFirst.nD,
      r.2.mem ((c.tc : Thread Cert.KernelFirst.nD Cert.KernelFirst.τ).loc Cert.KernelFirst.main_arg0) = m ((c.tc : Thread Cert.KernelFirst.nD Cert.KernelFirst.τ).loc Cert.KernelFirst.main_arg0)
      ∧ r.2.mem ((c.tc : Thread Cert.KernelFirst.nD Cert.KernelFirst.τ).loc Cert.KernelFirst.main_arg1) = m ((c.tc : Thread Cert.KernelFirst.nD Cert.KernelFirst.τ).loc Cert.KernelFirst.main_arg1)
      ∧ r.2.mem ((c.tc : Thread Cert.KernelFirst.nD Cert.KernelFirst.τ).loc Cert.KernelFirst.main_arg2) = m ((c.tc : Thread Cert.KernelFirst.nD Cert.KernelFirst.τ).loc Cert.KernelFirst.main_arg2)
      ∧ r.2.mem ((c.tc : Thread Cert.KernelFirst.nD Cert.KernelFirst.τ).loc Cert.KernelFirst.main_arg3) = m ((c.tc : Thread Cert.KernelFirst.nD Cert.KernelFirst.τ).loc Cert.KernelFirst.main_arg3)
      ∧ r.2.mem ((c.tc : Thread Cert.KernelFirst.nD Cert.KernelFirst.τ).loc Cert.KernelFirst.main_arg4) = m ((c.tc : Thread Cert.KernelFirst.nD Cert.KernelFirst.τ).loc Cert.KernelFirst.main_arg4)
      ∧ r.2.mem ((c.tc : Thread Cert.KernelFirst.nD Cert.KernelFirst.τ).loc Cert.KernelFirst.main_arg5) = m ((c.tc : Thread Cert.KernelFirst.nD Cert.KernelFirst.τ).loc Cert.KernelFirst.main_arg5)
      ∧ r.2.mem ((c.tc : Thread Cert.KernelFirst.nD Cert.KernelFirst.τ).loc Cert.KernelFirst.main_arg6) = m ((c.tc : Thread Cert.KernelFirst.nD Cert.KernelFirst.τ).loc Cert.KernelFirst.main_arg6))
      ∧ r.2.sem = fun _ => 0)

def quiescent_KernelFirstIdeal [hKernelFirstIdeal : Cert.KernelFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg), Pre_KernelFirstIdeal m →
    θ_run (Cert.KernelFirstIdeal.defs (F := Ideal)) (onTc (τ := Cert.KernelFirstIdeal.τ) (Cert.KernelFirstIdeal.main (F := Ideal))) ⟨m, fun _ => 0, g⟩ (fun r => (∀ c : Dev Cert.KernelFirstIdeal.nD,
      r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
      ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
      ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
      ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3)
      ∧ r.2.mem ((c.tc : Thread Cert.KernelFirstIdeal.nD Cert.KernelFirstIdeal.τ).loc Cert.KernelFirstIdeal.main_arg4) = m ((c.tc : Thread Cert.KernelFirstIdeal.nD Cert.KernelFirstIdeal.τ).loc Cert.KernelFirstIdeal.main_arg4)
      ∧ r.2.mem ((c.tc : Thread Cert.KernelFirstIdeal.nD Cert.KernelFirstIdeal.τ).loc Cert.KernelFirstIdeal.main_arg5) = m ((c.tc : Thread Cert.KernelFirstIdeal.nD Cert.KernelFirstIdeal.τ).loc Cert.KernelFirstIdeal.main_arg5)
      ∧ r.2.mem ((c.tc : Thread Cert.KernelFirstIdeal.nD Cert.KernelFirstIdeal.τ).loc Cert.KernelFirstIdeal.main_arg6) = m ((c.tc : Thread Cert.KernelFirstIdeal.nD Cert.KernelFirstIdeal.τ).loc Cert.KernelFirstIdeal.main_arg6))
      ∧ r.2.sem = fun _ => 0)

def quiescent_ReferenceFirstIdeal [hReferenceFirstIdeal : Cert.ReferenceFirstIdeal.Facts] : Prop :=
  ∀ (m : (ℓ : Loc Cert.ReferenceFirstIdeal.nD Cert.ReferenceFirstIdeal.τ Cert.ReferenceFirstIdeal.sig) → Buf (Elt Ideal) ℓ) (g : Dev Cert.ReferenceFirstIdeal.nD → PrngReg), Pre_ReferenceFirstIdeal m →
    θ_run (Cert.ReferenceFirstIdeal.defs (F := Ideal)) (onTc (τ := Cert.ReferenceFirstIdeal.τ) (Cert.ReferenceFirstIdeal.main (F := Ideal))) ⟨m, fun _ => 0, g⟩ (fun r => (∀ c : Dev Cert.ReferenceFirstIdeal.nD,
      r.2.mem ((c.tc : Thread Cert.ReferenceFirstIdeal.nD Cert.ReferenceFirstIdeal.τ).loc Cert.ReferenceFirstIdeal.main_arg0) = m ((c.tc : Thread Cert.ReferenceFirstIdeal.nD Cert.ReferenceFirstIdeal.τ).loc Cert.ReferenceFirstIdeal.main_arg0)
      ∧ r.2.mem ((c.tc : Thread Cert.ReferenceFirstIdeal.nD Cert.ReferenceFirstIdeal.τ).loc Cert.ReferenceFirstIdeal.main_arg1) = m ((c.tc : Thread Cert.ReferenceFirstIdeal.nD Cert.ReferenceFirstIdeal.τ).loc Cert.ReferenceFirstIdeal.main_arg1)
      ∧ r.2.mem ((c.tc : Thread Cert.ReferenceFirstIdeal.nD Cert.ReferenceFirstIdeal.τ).loc Cert.ReferenceFirstIdeal.main_arg2) = m ((c.tc : Thread Cert.ReferenceFirstIdeal.nD Cert.ReferenceFirstIdeal.τ).loc Cert.ReferenceFirstIdeal.main_arg2)
      ∧ r.2.mem ((c.tc : Thread Cert.ReferenceFirstIdeal.nD Cert.ReferenceFirstIdeal.τ).loc Cert.ReferenceFirstIdeal.main_arg3) = m ((c.tc : Thread Cert.ReferenceFirstIdeal.nD Cert.ReferenceFirstIdeal.τ).loc Cert.ReferenceFirstIdeal.main_arg3)
      ∧ r.2.mem ((c.tc : Thread Cert.ReferenceFirstIdeal.nD Cert.ReferenceFirstIdeal.τ).loc Cert.ReferenceFirstIdeal.main_arg4) = m ((c.tc : Thread Cert.ReferenceFirstIdeal.nD Cert.ReferenceFirstIdeal.τ).loc Cert.ReferenceFirstIdeal.main_arg4)
      ∧ r.2.mem ((c.tc : Thread Cert.ReferenceFirstIdeal.nD Cert.ReferenceFirstIdeal.τ).loc Cert.ReferenceFirstIdeal.main_arg5) = m ((c.tc : Thread Cert.ReferenceFirstIdeal.nD Cert.ReferenceFirstIdeal.τ).loc Cert.ReferenceFirstIdeal.main_arg5)
      ∧ r.2.mem ((c.tc : Thread Cert.ReferenceFirstIdeal.nD Cert.ReferenceFirstIdeal.τ).loc Cert.ReferenceFirstIdeal.main_arg6) = m ((c.tc : Thread Cert.ReferenceFirstIdeal.nD Cert.ReferenceFirstIdeal.τ).loc Cert.ReferenceFirstIdeal.main_arg6))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)
      ∧ m' ((c.tc : Thread Cert.ReferenceFfnIdeal.nD Cert.ReferenceFfnIdeal.τ).loc Cert.ReferenceFfnIdeal.main_arg6) = m ((c.tc : Thread Cert.KernelFfnIdeal.nD Cert.KernelFfnIdeal.τ).loc Cert.KernelFfnIdeal.main_arg6)
      ∧ m' ((c.tc : Thread Cert.ReferenceFfnIdeal.nD Cert.ReferenceFfnIdeal.τ).loc Cert.ReferenceFfnIdeal.main_arg7) = m ((c.tc : Thread Cert.KernelFfnIdeal.nD Cert.KernelFfnIdeal.τ).loc Cert.KernelFfnIdeal.main_arg7)
      ∧ m' ((c.tc : Thread Cert.ReferenceFfnIdeal.nD Cert.ReferenceFfnIdeal.τ).loc Cert.ReferenceFfnIdeal.main_arg8) = m ((c.tc : Thread Cert.KernelFfnIdeal.nD Cert.KernelFfnIdeal.τ).loc Cert.KernelFfnIdeal.main_arg8)
      ∧ m' ((c.tc : Thread Cert.ReferenceFfnIdeal.nD Cert.ReferenceFfnIdeal.τ).loc Cert.ReferenceFfnIdeal.main_arg9) = m ((c.tc : Thread Cert.KernelFfnIdeal.nD Cert.KernelFfnIdeal.τ).loc Cert.KernelFfnIdeal.main_arg9)) →
    ∃ (v0 : (c : Dev Cert.KernelFfnIdeal.nD) → Buf (Elt Ideal) ((c.tc : Thread Cert.KernelFfnIdeal.nD Cert.KernelFfnIdeal.τ).loc Cert.KernelFfnIdeal.main_v20)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v20) = v0 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6)
          ∧ r.2.mem ((c.tc : Thread Cert.KernelFfnIdeal.nD Cert.KernelFfnIdeal.τ).loc Cert.KernelFfnIdeal.main_arg7) = m ((c.tc : Thread Cert.KernelFfnIdeal.nD Cert.KernelFfnIdeal.τ).loc Cert.KernelFfnIdeal.main_arg7)
          ∧ r.2.mem ((c.tc : Thread Cert.KernelFfnIdeal.nD Cert.KernelFfnIdeal.τ).loc Cert.KernelFfnIdeal.main_arg8) = m ((c.tc : Thread Cert.KernelFfnIdeal.nD Cert.KernelFfnIdeal.τ).loc Cert.KernelFfnIdeal.main_arg8)
          ∧ r.2.mem ((c.tc : Thread Cert.KernelFfnIdeal.nD Cert.KernelFfnIdeal.τ).loc Cert.KernelFfnIdeal.main_arg9) = m ((c.tc : Thread Cert.KernelFfnIdeal.nD Cert.KernelFfnIdeal.τ).loc Cert.KernelFfnIdeal.main_arg9))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v58) = v0 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5)
          ∧ r.2.mem ((c.tc : Thread Cert.ReferenceFfnIdeal.nD Cert.ReferenceFfnIdeal.τ).loc Cert.ReferenceFfnIdeal.main_arg6) = m' ((c.tc : Thread Cert.ReferenceFfnIdeal.nD Cert.ReferenceFfnIdeal.τ).loc Cert.ReferenceFfnIdeal.main_arg6)
          ∧ r.2.mem ((c.tc : Thread Cert.ReferenceFfnIdeal.nD Cert.ReferenceFfnIdeal.τ).loc Cert.ReferenceFfnIdeal.main_arg7) = m' ((c.tc : Thread Cert.ReferenceFfnIdeal.nD Cert.ReferenceFfnIdeal.τ).loc Cert.ReferenceFfnIdeal.main_arg7)
          ∧ r.2.mem ((c.tc : Thread Cert.ReferenceFfnIdeal.nD Cert.ReferenceFfnIdeal.τ).loc Cert.ReferenceFfnIdeal.main_arg8) = m' ((c.tc : Thread Cert.ReferenceFfnIdeal.nD Cert.ReferenceFfnIdeal.τ).loc Cert.ReferenceFfnIdeal.main_arg8)
          ∧ r.2.mem ((c.tc : Thread Cert.ReferenceFfnIdeal.nD Cert.ReferenceFfnIdeal.τ).loc Cert.ReferenceFfnIdeal.main_arg9) = m' ((c.tc : Thread Cert.ReferenceFfnIdeal.nD Cert.ReferenceFfnIdeal.τ).loc Cert.ReferenceFfnIdeal.main_arg9))

def preserves_KernelEven_KernelEvenIdeal : Prop :=
  True

def algebraic_KernelEvenIdeal_ReferenceEvenIdeal [hKernelEvenIdeal : Cert.KernelEvenIdeal.Facts] [hReferenceEvenIdeal : Cert.ReferenceEvenIdeal.Facts] : Prop :=
  ∀ (m : (ℓ : Loc Cert.KernelEvenIdeal.nD Cert.KernelEvenIdeal.τ Cert.KernelEvenIdeal.sig) → Buf (Elt Ideal) ℓ) (g : Dev Cert.KernelEvenIdeal.nD → PrngReg)
    (m' : (ℓ : Loc Cert.ReferenceEvenIdeal.nD Cert.ReferenceEvenIdeal.τ Cert.ReferenceEvenIdeal.sig) → Buf (Elt Ideal) ℓ) (g' : Dev Cert.ReferenceEvenIdeal.nD → PrngReg), Pre_KernelEvenIdeal m →
    (∀ c : Dev Cert.KernelEvenIdeal.nD,
      m' ((c.tc : Thread Cert.ReferenceEvenIdeal.nD Cert.ReferenceEvenIdeal.τ).loc Cert.ReferenceEvenIdeal.main_arg0) = m ((c.tc : Thread Cert.KernelEvenIdeal.nD Cert.KernelEvenIdeal.τ).loc Cert.KernelEvenIdeal.main_arg0)
      ∧ m' ((c.tc : Thread Cert.ReferenceEvenIdeal.nD Cert.ReferenceEvenIdeal.τ).loc Cert.ReferenceEvenIdeal.main_arg1) = m ((c.tc : Thread Cert.KernelEvenIdeal.nD Cert.KernelEvenIdeal.τ).loc Cert.KernelEvenIdeal.main_arg1)
      ∧ m' ((c.tc : Thread Cert.ReferenceEvenIdeal.nD Cert.ReferenceEvenIdeal.τ).loc Cert.ReferenceEvenIdeal.main_arg2) = m ((c.tc : Thread Cert.KernelEvenIdeal.nD Cert.KernelEvenIdeal.τ).loc Cert.KernelEvenIdeal.main_arg2)
      ∧ m' ((c.tc : Thread Cert.ReferenceEvenIdeal.nD Cert.ReferenceEvenIdeal.τ).loc Cert.ReferenceEvenIdeal.main_arg3) = m ((c.tc : Thread Cert.KernelEvenIdeal.nD Cert.KernelEvenIdeal.τ).loc Cert.KernelEvenIdeal.main_arg3)
      ∧ m' ((c.tc : Thread Cert.ReferenceEvenIdeal.nD Cert.ReferenceEvenIdeal.τ).loc Cert.ReferenceEvenIdeal.main_arg4) = m ((c.tc : Thread Cert.KernelEvenIdeal.nD Cert.KernelEvenIdeal.τ).loc Cert.KernelEvenIdeal.main_arg4)
      ∧ m' ((c.tc : Thread Cert.ReferenceEvenIdeal.nD Cert.ReferenceEvenIdeal.τ).loc Cert.ReferenceEvenIdeal.main_arg5) = m ((c.tc : Thread Cert.KernelEvenIdeal.nD Cert.KernelEvenIdeal.τ).loc Cert.KernelEvenIdeal.main_arg5)
      ∧ m' ((c.tc : Thread Cert.ReferenceEvenIdeal.nD Cert.ReferenceEvenIdeal.τ).loc Cert.ReferenceEvenIdeal.main_arg6) = m ((c.tc : Thread Cert.KernelEvenIdeal.nD Cert.KernelEvenIdeal.τ).loc Cert.KernelEvenIdeal.main_arg6)
      ∧ m' ((c.tc : Thread Cert.ReferenceEvenIdeal.nD Cert.ReferenceEvenIdeal.τ).loc Cert.ReferenceEvenIdeal.main_arg7) = m ((c.tc : Thread Cert.KernelEvenIdeal.nD Cert.KernelEvenIdeal.τ).loc Cert.KernelEvenIdeal.main_arg7)
      ∧ m' ((c.tc : Thread Cert.ReferenceEvenIdeal.nD Cert.ReferenceEvenIdeal.τ).loc Cert.ReferenceEvenIdeal.main_arg8) = m ((c.tc : Thread Cert.KernelEvenIdeal.nD Cert.KernelEvenIdeal.τ).loc Cert.KernelEvenIdeal.main_arg8)
      ∧ m' ((c.tc : Thread Cert.ReferenceEvenIdeal.nD Cert.ReferenceEvenIdeal.τ).loc Cert.ReferenceEvenIdeal.main_arg9) = m ((c.tc : Thread Cert.KernelEvenIdeal.nD Cert.KernelEvenIdeal.τ).loc Cert.KernelEvenIdeal.main_arg9)) →
    ∃ (v0 : (c : Dev Cert.KernelEvenIdeal.nD) → Buf (Elt Ideal) ((c.tc : Thread Cert.KernelEvenIdeal.nD Cert.KernelEvenIdeal.τ).loc Cert.KernelEvenIdeal.main_v9)),
      θ_run (Cert.KernelEvenIdeal.defs (F := Ideal)) (onTc (τ := Cert.KernelEvenIdeal.τ) (Cert.KernelEvenIdeal.main (F := Ideal))) ⟨m, fun _ => 0, g⟩ (fun r => ∀ c : Dev Cert.KernelEvenIdeal.nD,
          r.2.mem ((c.tc : Thread Cert.KernelEvenIdeal.nD Cert.KernelEvenIdeal.τ).loc Cert.KernelEvenIdeal.main_v9) = v0 c
          ∧ r.2.mem ((c.tc : Thread Cert.KernelEvenIdeal.nD Cert.KernelEvenIdeal.τ).loc Cert.KernelEvenIdeal.main_arg0) = m ((c.tc : Thread Cert.KernelEvenIdeal.nD Cert.KernelEvenIdeal.τ).loc Cert.KernelEvenIdeal.main_arg0)
          ∧ r.2.mem ((c.tc : Thread Cert.KernelEvenIdeal.nD Cert.KernelEvenIdeal.τ).loc Cert.KernelEvenIdeal.main_arg1) = m ((c.tc : Thread Cert.KernelEvenIdeal.nD Cert.KernelEvenIdeal.τ).loc Cert.KernelEvenIdeal.main_arg1)
          ∧ r.2.mem ((c.tc : Thread Cert.KernelEvenIdeal.nD Cert.KernelEvenIdeal.τ).loc Cert.KernelEvenIdeal.main_arg2) = m ((c.tc : Thread Cert.KernelEvenIdeal.nD Cert.KernelEvenIdeal.τ).loc Cert.KernelEvenIdeal.main_arg2)
          ∧ r.2.mem ((c.tc : Thread Cert.KernelEvenIdeal.nD Cert.KernelEvenIdeal.τ).loc Cert.KernelEvenIdeal.main_arg3) = m ((c.tc : Thread Cert.KernelEvenIdeal.nD Cert.KernelEvenIdeal.τ).loc Cert.KernelEvenIdeal.main_arg3)
          ∧ r.2.mem ((c.tc : Thread Cert.KernelEvenIdeal.nD Cert.KernelEvenIdeal.τ).loc Cert.KernelEvenIdeal.main_arg4) = m ((c.tc : Thread Cert.KernelEvenIdeal.nD Cert.KernelEvenIdeal.τ).loc Cert.KernelEvenIdeal.main_arg4)
          ∧ r.2.mem ((c.tc : Thread Cert.KernelEvenIdeal.nD Cert.KernelEvenIdeal.τ).loc Cert.KernelEvenIdeal.main_arg5) = m ((c.tc : Thread Cert.KernelEvenIdeal.nD Cert.KernelEvenIdeal.τ).loc Cert.KernelEvenIdeal.main_arg5)
          ∧ r.2.mem ((c.tc : Thread Cert.KernelEvenIdeal.nD Cert.KernelEvenIdeal.τ).loc Cert.KernelEvenIdeal.main_arg6) = m ((c.tc : Thread Cert.KernelEvenIdeal.nD Cert.KernelEvenIdeal.τ).loc Cert.KernelEvenIdeal.main_arg6)
          ∧ r.2.mem ((c.tc : Thread Cert.KernelEvenIdeal.nD Cert.KernelEvenIdeal.τ).loc Cert.KernelEvenIdeal.main_arg7) = m ((c.tc : Thread Cert.KernelEvenIdeal.nD Cert.KernelEvenIdeal.τ).loc Cert.KernelEvenIdeal.main_arg7)
          ∧ r.2.mem ((c.tc : Thread Cert.KernelEvenIdeal.nD Cert.KernelEvenIdeal.τ).loc Cert.KernelEvenIdeal.main_arg8) = m ((c.tc : Thread Cert.KernelEvenIdeal.nD Cert.KernelEvenIdeal.τ).loc Cert.KernelEvenIdeal.main_arg8)
          ∧ r.2.mem ((c.tc : Thread Cert.KernelEvenIdeal.nD Cert.KernelEvenIdeal.τ).loc Cert.KernelEvenIdeal.main_arg9) = m ((c.tc : Thread Cert.KernelEvenIdeal.nD Cert.KernelEvenIdeal.τ).loc Cert.KernelEvenIdeal.main_arg9))
      ∧ θ_run (Cert.ReferenceEvenIdeal.defs (F := Ideal)) (onTc (τ := Cert.ReferenceEvenIdeal.τ) (Cert.ReferenceEvenIdeal.main (F := Ideal))) ⟨m', fun _ => 0, g'⟩ (fun r => ∀ c : Dev Cert.ReferenceEvenIdeal.nD,
          r.2.mem ((c.tc : Thread Cert.ReferenceEvenIdeal.nD Cert.ReferenceEvenIdeal.τ).loc Cert.ReferenceEvenIdeal.main_v51) = v0 c
          ∧ r.2.mem ((c.tc : Thread Cert.ReferenceEvenIdeal.nD Cert.ReferenceEvenIdeal.τ).loc Cert.ReferenceEvenIdeal.main_arg0) = m' ((c.tc : Thread Cert.ReferenceEvenIdeal.nD Cert.ReferenceEvenIdeal.τ).loc Cert.ReferenceEvenIdeal.main_arg0)
          ∧ r.2.mem ((c.tc : Thread Cert.ReferenceEvenIdeal.nD Cert.ReferenceEvenIdeal.τ).loc Cert.ReferenceEvenIdeal.main_arg1) = m' ((c.tc : Thread Cert.ReferenceEvenIdeal.nD Cert.ReferenceEvenIdeal.τ).loc Cert.ReferenceEvenIdeal.main_arg1)
          ∧ r.2.mem ((c.tc : Thread Cert.ReferenceEvenIdeal.nD Cert.ReferenceEvenIdeal.τ).loc Cert.ReferenceEvenIdeal.main_arg2) = m' ((c.tc : Thread Cert.ReferenceEvenIdeal.nD Cert.ReferenceEvenIdeal.τ).loc Cert.ReferenceEvenIdeal.main_arg2)
          ∧ r.2.mem ((c.tc : Thread Cert.ReferenceEvenIdeal.nD Cert.ReferenceEvenIdeal.τ).loc Cert.ReferenceEvenIdeal.main_arg3) = m' ((c.tc : Thread Cert.ReferenceEvenIdeal.nD Cert.ReferenceEvenIdeal.τ).loc Cert.ReferenceEvenIdeal.main_arg3)
          ∧ r.2.mem ((c.tc : Thread Cert.ReferenceEvenIdeal.nD Cert.ReferenceEvenIdeal.τ).loc Cert.ReferenceEvenIdeal.main_arg4) = m' ((c.tc : Thread Cert.ReferenceEvenIdeal.nD Cert.ReferenceEvenIdeal.τ).loc Cert.ReferenceEvenIdeal.main_arg4)
          ∧ r.2.mem ((c.tc : Thread Cert.ReferenceEvenIdeal.nD Cert.ReferenceEvenIdeal.τ).loc Cert.ReferenceEvenIdeal.main_arg5) = m' ((c.tc : Thread Cert.ReferenceEvenIdeal.nD Cert.ReferenceEvenIdeal.τ).loc Cert.ReferenceEvenIdeal.main_arg5)
          ∧ r.2.mem ((c.tc : Thread Cert.ReferenceEvenIdeal.nD Cert.ReferenceEvenIdeal.τ).loc Cert.ReferenceEvenIdeal.main_arg6) = m' ((c.tc : Thread Cert.ReferenceEvenIdeal.nD Cert.ReferenceEvenIdeal.τ).loc Cert.ReferenceEvenIdeal.main_arg6)
          ∧ r.2.mem ((c.tc : Thread Cert.ReferenceEvenIdeal.nD Cert.ReferenceEvenIdeal.τ).loc Cert.ReferenceEvenIdeal.main_arg7) = m' ((c.tc : Thread Cert.ReferenceEvenIdeal.nD Cert.ReferenceEvenIdeal.τ).loc Cert.ReferenceEvenIdeal.main_arg7)
          ∧ r.2.mem ((c.tc : Thread Cert.ReferenceEvenIdeal.nD Cert.ReferenceEvenIdeal.τ).loc Cert.ReferenceEvenIdeal.main_arg8) = m' ((c.tc : Thread Cert.ReferenceEvenIdeal.nD Cert.ReferenceEvenIdeal.τ).loc Cert.ReferenceEvenIdeal.main_arg8)
          ∧ r.2.mem ((c.tc : Thread Cert.ReferenceEvenIdeal.nD Cert.ReferenceEvenIdeal.τ).loc Cert.ReferenceEvenIdeal.main_arg9) = m' ((c.tc : Thread Cert.ReferenceEvenIdeal.nD Cert.ReferenceEvenIdeal.τ).loc Cert.ReferenceEvenIdeal.main_arg9))

def preserves_KernelOdd_KernelOddIdeal : Prop :=
  True

def algebraic_KernelOddIdeal_ReferenceOddIdeal [hKernelOddIdeal : Cert.KernelOddIdeal.Facts] [hReferenceOddIdeal : Cert.ReferenceOddIdeal.Facts] : Prop :=
  ∀ (m : (ℓ : Loc Cert.KernelOddIdeal.nD Cert.KernelOddIdeal.τ Cert.KernelOddIdeal.sig) → Buf (Elt Ideal) ℓ) (g : Dev Cert.KernelOddIdeal.nD → PrngReg)
    (m' : (ℓ : Loc Cert.ReferenceOddIdeal.nD Cert.ReferenceOddIdeal.τ Cert.ReferenceOddIdeal.sig) → Buf (Elt Ideal) ℓ) (g' : Dev Cert.ReferenceOddIdeal.nD → PrngReg), Pre_KernelOddIdeal m →
    (∀ c : Dev Cert.KernelOddIdeal.nD,
      m' ((c.tc : Thread Cert.ReferenceOddIdeal.nD Cert.ReferenceOddIdeal.τ).loc Cert.ReferenceOddIdeal.main_arg0) = m ((c.tc : Thread Cert.KernelOddIdeal.nD Cert.KernelOddIdeal.τ).loc Cert.KernelOddIdeal.main_arg0)
      ∧ m' ((c.tc : Thread Cert.ReferenceOddIdeal.nD Cert.ReferenceOddIdeal.τ).loc Cert.ReferenceOddIdeal.main_arg1) = m ((c.tc : Thread Cert.KernelOddIdeal.nD Cert.KernelOddIdeal.τ).loc Cert.KernelOddIdeal.main_arg1)
      ∧ m' ((c.tc : Thread Cert.ReferenceOddIdeal.nD Cert.ReferenceOddIdeal.τ).loc Cert.ReferenceOddIdeal.main_arg2) = m ((c.tc : Thread Cert.KernelOddIdeal.nD Cert.KernelOddIdeal.τ).loc Cert.KernelOddIdeal.main_arg2)
      ∧ m' ((c.tc : Thread Cert.ReferenceOddIdeal.nD Cert.ReferenceOddIdeal.τ).loc Cert.ReferenceOddIdeal.main_arg3) = m ((c.tc : Thread Cert.KernelOddIdeal.nD Cert.KernelOddIdeal.τ).loc Cert.KernelOddIdeal.main_arg3)
      ∧ m' ((c.tc : Thread Cert.ReferenceOddIdeal.nD Cert.ReferenceOddIdeal.τ).loc Cert.ReferenceOddIdeal.main_arg4) = m ((c.tc : Thread Cert.KernelOddIdeal.nD Cert.KernelOddIdeal.τ).loc Cert.KernelOddIdeal.main_arg4)
      ∧ m' ((c.tc : Thread Cert.ReferenceOddIdeal.nD Cert.ReferenceOddIdeal.τ).loc Cert.ReferenceOddIdeal.main_arg5) = m ((c.tc : Thread Cert.KernelOddIdeal.nD Cert.KernelOddIdeal.τ).loc Cert.KernelOddIdeal.main_arg5)) →
    ∃ (v0 : (c : Dev Cert.KernelOddIdeal.nD) → Buf (Elt Ideal) ((c.tc : Thread Cert.KernelOddIdeal.nD Cert.KernelOddIdeal.τ).loc Cert.KernelOddIdeal.main_v5)),
      θ_run (Cert.KernelOddIdeal.defs (F := Ideal)) (onTc (τ := Cert.KernelOddIdeal.τ) (Cert.KernelOddIdeal.main (F := Ideal))) ⟨m, fun _ => 0, g⟩ (fun r => ∀ c : Dev Cert.KernelOddIdeal.nD,
          r.2.mem ((c.tc : Thread Cert.KernelOddIdeal.nD Cert.KernelOddIdeal.τ).loc Cert.KernelOddIdeal.main_v5) = v0 c
          ∧ r.2.mem ((c.tc : Thread Cert.KernelOddIdeal.nD Cert.KernelOddIdeal.τ).loc Cert.KernelOddIdeal.main_arg0) = m ((c.tc : Thread Cert.KernelOddIdeal.nD Cert.KernelOddIdeal.τ).loc Cert.KernelOddIdeal.main_arg0)
          ∧ r.2.mem ((c.tc : Thread Cert.KernelOddIdeal.nD Cert.KernelOddIdeal.τ).loc Cert.KernelOddIdeal.main_arg1) = m ((c.tc : Thread Cert.KernelOddIdeal.nD Cert.KernelOddIdeal.τ).loc Cert.KernelOddIdeal.main_arg1)
          ∧ r.2.mem ((c.tc : Thread Cert.KernelOddIdeal.nD Cert.KernelOddIdeal.τ).loc Cert.KernelOddIdeal.main_arg2) = m ((c.tc : Thread Cert.KernelOddIdeal.nD Cert.KernelOddIdeal.τ).loc Cert.KernelOddIdeal.main_arg2)
          ∧ r.2.mem ((c.tc : Thread Cert.KernelOddIdeal.nD Cert.KernelOddIdeal.τ).loc Cert.KernelOddIdeal.main_arg3) = m ((c.tc : Thread Cert.KernelOddIdeal.nD Cert.KernelOddIdeal.τ).loc Cert.KernelOddIdeal.main_arg3)
          ∧ r.2.mem ((c.tc : Thread Cert.KernelOddIdeal.nD Cert.KernelOddIdeal.τ).loc Cert.KernelOddIdeal.main_arg4) = m ((c.tc : Thread Cert.KernelOddIdeal.nD Cert.KernelOddIdeal.τ).loc Cert.KernelOddIdeal.main_arg4)
          ∧ r.2.mem ((c.tc : Thread Cert.KernelOddIdeal.nD Cert.KernelOddIdeal.τ).loc Cert.KernelOddIdeal.main_arg5) = m ((c.tc : Thread Cert.KernelOddIdeal.nD Cert.KernelOddIdeal.τ).loc Cert.KernelOddIdeal.main_arg5))
      ∧ θ_run (Cert.ReferenceOddIdeal.defs (F := Ideal)) (onTc (τ := Cert.ReferenceOddIdeal.τ) (Cert.ReferenceOddIdeal.main (F := Ideal))) ⟨m', fun _ => 0, g'⟩ (fun r => ∀ c : Dev Cert.ReferenceOddIdeal.nD,
          r.2.mem ((c.tc : Thread Cert.ReferenceOddIdeal.nD Cert.ReferenceOddIdeal.τ).loc Cert.ReferenceOddIdeal.main_v33) = v0 c
          ∧ r.2.mem ((c.tc : Thread Cert.ReferenceOddIdeal.nD Cert.ReferenceOddIdeal.τ).loc Cert.ReferenceOddIdeal.main_arg0) = m' ((c.tc : Thread Cert.ReferenceOddIdeal.nD Cert.ReferenceOddIdeal.τ).loc Cert.ReferenceOddIdeal.main_arg0)
          ∧ r.2.mem ((c.tc : Thread Cert.ReferenceOddIdeal.nD Cert.ReferenceOddIdeal.τ).loc Cert.ReferenceOddIdeal.main_arg1) = m' ((c.tc : Thread Cert.ReferenceOddIdeal.nD Cert.ReferenceOddIdeal.τ).loc Cert.ReferenceOddIdeal.main_arg1)
          ∧ r.2.mem ((c.tc : Thread Cert.ReferenceOddIdeal.nD Cert.ReferenceOddIdeal.τ).loc Cert.ReferenceOddIdeal.main_arg2) = m' ((c.tc : Thread Cert.ReferenceOddIdeal.nD Cert.ReferenceOddIdeal.τ).loc Cert.ReferenceOddIdeal.main_arg2)
          ∧ r.2.mem ((c.tc : Thread Cert.ReferenceOddIdeal.nD Cert.ReferenceOddIdeal.τ).loc Cert.ReferenceOddIdeal.main_arg3) = m' ((c.tc : Thread Cert.ReferenceOddIdeal.nD Cert.ReferenceOddIdeal.τ).loc Cert.ReferenceOddIdeal.main_arg3)
          ∧ r.2.mem ((c.tc : Thread Cert.ReferenceOddIdeal.nD Cert.ReferenceOddIdeal.τ).loc Cert.ReferenceOddIdeal.main_arg4) = m' ((c.tc : Thread Cert.ReferenceOddIdeal.nD Cert.ReferenceOddIdeal.τ).loc Cert.ReferenceOddIdeal.main_arg4)
          ∧ r.2.mem ((c.tc : Thread Cert.ReferenceOddIdeal.nD Cert.ReferenceOddIdeal.τ).loc Cert.ReferenceOddIdeal.main_arg5) = m' ((c.tc : Thread Cert.ReferenceOddIdeal.nD Cert.ReferenceOddIdeal.τ).loc Cert.ReferenceOddIdeal.main_arg5))

def preserves_KernelFirst_KernelFirstIdeal : Prop :=
  True

def algebraic_KernelFirstIdeal_ReferenceFirstIdeal [hKernelFirstIdeal : Cert.KernelFirstIdeal.Facts] [hReferenceFirstIdeal : Cert.ReferenceFirstIdeal.Facts] : Prop :=
  ∀ (m : (ℓ : Loc Cert.KernelFirstIdeal.nD Cert.KernelFirstIdeal.τ Cert.KernelFirstIdeal.sig) → Buf (Elt Ideal) ℓ) (g : Dev Cert.KernelFirstIdeal.nD → PrngReg)
    (m' : (ℓ : Loc Cert.ReferenceFirstIdeal.nD Cert.ReferenceFirstIdeal.τ Cert.ReferenceFirstIdeal.sig) → Buf (Elt Ideal) ℓ) (g' : Dev Cert.ReferenceFirstIdeal.nD → PrngReg), Pre_KernelFirstIdeal m →
    (∀ c : Dev Cert.KernelFirstIdeal.nD,
      m' ((c.tc : Thread Cert.ReferenceFirstIdeal.nD Cert.ReferenceFirstIdeal.τ).loc Cert.ReferenceFirstIdeal.main_arg0) = m ((c.tc : Thread Cert.KernelFirstIdeal.nD Cert.KernelFirstIdeal.τ).loc Cert.KernelFirstIdeal.main_arg0)
      ∧ m' ((c.tc : Thread Cert.ReferenceFirstIdeal.nD Cert.ReferenceFirstIdeal.τ).loc Cert.ReferenceFirstIdeal.main_arg1) = m ((c.tc : Thread Cert.KernelFirstIdeal.nD Cert.KernelFirstIdeal.τ).loc Cert.KernelFirstIdeal.main_arg1)
      ∧ m' ((c.tc : Thread Cert.ReferenceFirstIdeal.nD Cert.ReferenceFirstIdeal.τ).loc Cert.ReferenceFirstIdeal.main_arg2) = m ((c.tc : Thread Cert.KernelFirstIdeal.nD Cert.KernelFirstIdeal.τ).loc Cert.KernelFirstIdeal.main_arg2)
      ∧ m' ((c.tc : Thread Cert.ReferenceFirstIdeal.nD Cert.ReferenceFirstIdeal.τ).loc Cert.ReferenceFirstIdeal.main_arg3) = m ((c.tc : Thread Cert.KernelFirstIdeal.nD Cert.KernelFirstIdeal.τ).loc Cert.KernelFirstIdeal.main_arg3)
      ∧ m' ((c.tc : Thread Cert.ReferenceFirstIdeal.nD Cert.ReferenceFirstIdeal.τ).loc Cert.ReferenceFirstIdeal.main_arg4) = m ((c.tc : Thread Cert.KernelFirstIdeal.nD Cert.KernelFirstIdeal.τ).loc Cert.KernelFirstIdeal.main_arg4)
      ∧ m' ((c.tc : Thread Cert.ReferenceFirstIdeal.nD Cert.ReferenceFirstIdeal.τ).loc Cert.ReferenceFirstIdeal.main_arg5) = m ((c.tc : Thread Cert.KernelFirstIdeal.nD Cert.KernelFirstIdeal.τ).loc Cert.KernelFirstIdeal.main_arg5)
      ∧ m' ((c.tc : Thread Cert.ReferenceFirstIdeal.nD Cert.ReferenceFirstIdeal.τ).loc Cert.ReferenceFirstIdeal.main_arg6) = m ((c.tc : Thread Cert.KernelFirstIdeal.nD Cert.KernelFirstIdeal.τ).loc Cert.KernelFirstIdeal.main_arg6)) →
    ∃ (v0 : (c : Dev Cert.KernelFirstIdeal.nD) → Buf (Elt Ideal) ((c.tc : Thread Cert.KernelFirstIdeal.nD Cert.KernelFirstIdeal.τ).loc Cert.KernelFirstIdeal.main_v12)),
      θ_run (Cert.KernelFirstIdeal.defs (F := Ideal)) (onTc (τ := Cert.KernelFirstIdeal.τ) (Cert.KernelFirstIdeal.main (F := Ideal))) ⟨m, fun _ => 0, g⟩ (fun r => ∀ c : Dev Cert.KernelFirstIdeal.nD,
          r.2.mem ((c.tc : Thread Cert.KernelFirstIdeal.nD Cert.KernelFirstIdeal.τ).loc Cert.KernelFirstIdeal.main_v12) = v0 c
          ∧ r.2.mem ((c.tc : Thread Cert.KernelFirstIdeal.nD Cert.KernelFirstIdeal.τ).loc Cert.KernelFirstIdeal.main_arg0) = m ((c.tc : Thread Cert.KernelFirstIdeal.nD Cert.KernelFirstIdeal.τ).loc Cert.KernelFirstIdeal.main_arg0)
          ∧ r.2.mem ((c.tc : Thread Cert.KernelFirstIdeal.nD Cert.KernelFirstIdeal.τ).loc Cert.KernelFirstIdeal.main_arg1) = m ((c.tc : Thread Cert.KernelFirstIdeal.nD Cert.KernelFirstIdeal.τ).loc Cert.KernelFirstIdeal.main_arg1)
          ∧ r.2.mem ((c.tc : Thread Cert.KernelFirstIdeal.nD Cert.KernelFirstIdeal.τ).loc Cert.KernelFirstIdeal.main_arg2) = m ((c.tc : Thread Cert.KernelFirstIdeal.nD Cert.KernelFirstIdeal.τ).loc Cert.KernelFirstIdeal.main_arg2)
          ∧ r.2.mem ((c.tc : Thread Cert.KernelFirstIdeal.nD Cert.KernelFirstIdeal.τ).loc Cert.KernelFirstIdeal.main_arg3) = m ((c.tc : Thread Cert.KernelFirstIdeal.nD Cert.KernelFirstIdeal.τ).loc Cert.KernelFirstIdeal.main_arg3)
          ∧ r.2.mem ((c.tc : Thread Cert.KernelFirstIdeal.nD Cert.KernelFirstIdeal.τ).loc Cert.KernelFirstIdeal.main_arg4) = m ((c.tc : Thread Cert.KernelFirstIdeal.nD Cert.KernelFirstIdeal.τ).loc Cert.KernelFirstIdeal.main_arg4)
          ∧ r.2.mem ((c.tc : Thread Cert.KernelFirstIdeal.nD Cert.KernelFirstIdeal.τ).loc Cert.KernelFirstIdeal.main_arg5) = m ((c.tc : Thread Cert.KernelFirstIdeal.nD Cert.KernelFirstIdeal.τ).loc Cert.KernelFirstIdeal.main_arg5)
          ∧ r.2.mem ((c.tc : Thread Cert.KernelFirstIdeal.nD Cert.KernelFirstIdeal.τ).loc Cert.KernelFirstIdeal.main_arg6) = m ((c.tc : Thread Cert.KernelFirstIdeal.nD Cert.KernelFirstIdeal.τ).loc Cert.KernelFirstIdeal.main_arg6))
      ∧ θ_run (Cert.ReferenceFirstIdeal.defs (F := Ideal)) (onTc (τ := Cert.ReferenceFirstIdeal.τ) (Cert.ReferenceFirstIdeal.main (F := Ideal))) ⟨m', fun _ => 0, g'⟩ (fun r => ∀ c : Dev Cert.ReferenceFirstIdeal.nD,
          r.2.mem ((c.tc : Thread Cert.ReferenceFirstIdeal.nD Cert.ReferenceFirstIdeal.τ).loc Cert.ReferenceFirstIdeal.main_v38) = v0 c
          ∧ r.2.mem ((c.tc : Thread Cert.ReferenceFirstIdeal.nD Cert.ReferenceFirstIdeal.τ).loc Cert.ReferenceFirstIdeal.main_arg0) = m' ((c.tc : Thread Cert.ReferenceFirstIdeal.nD Cert.ReferenceFirstIdeal.τ).loc Cert.ReferenceFirstIdeal.main_arg0)
          ∧ r.2.mem ((c.tc : Thread Cert.ReferenceFirstIdeal.nD Cert.ReferenceFirstIdeal.τ).loc Cert.ReferenceFirstIdeal.main_arg1) = m' ((c.tc : Thread Cert.ReferenceFirstIdeal.nD Cert.ReferenceFirstIdeal.τ).loc Cert.ReferenceFirstIdeal.main_arg1)
          ∧ r.2.mem ((c.tc : Thread Cert.ReferenceFirstIdeal.nD Cert.ReferenceFirstIdeal.τ).loc Cert.ReferenceFirstIdeal.main_arg2) = m' ((c.tc : Thread Cert.ReferenceFirstIdeal.nD Cert.ReferenceFirstIdeal.τ).loc Cert.ReferenceFirstIdeal.main_arg2)
          ∧ r.2.mem ((c.tc : Thread Cert.ReferenceFirstIdeal.nD Cert.ReferenceFirstIdeal.τ).loc Cert.ReferenceFirstIdeal.main_arg3) = m' ((c.tc : Thread Cert.ReferenceFirstIdeal.nD Cert.ReferenceFirstIdeal.τ).loc Cert.ReferenceFirstIdeal.main_arg3)
          ∧ r.2.mem ((c.tc : Thread Cert.ReferenceFirstIdeal.nD Cert.ReferenceFirstIdeal.τ).loc Cert.ReferenceFirstIdeal.main_arg4) = m' ((c.tc : Thread Cert.ReferenceFirstIdeal.nD Cert.ReferenceFirstIdeal.τ).loc Cert.ReferenceFirstIdeal.main_arg4)
          ∧ r.2.mem ((c.tc : Thread Cert.ReferenceFirstIdeal.nD Cert.ReferenceFirstIdeal.τ).loc Cert.ReferenceFirstIdeal.main_arg5) = m' ((c.tc : Thread Cert.ReferenceFirstIdeal.nD Cert.ReferenceFirstIdeal.τ).loc Cert.ReferenceFirstIdeal.main_arg5)
          ∧ r.2.mem ((c.tc : Thread Cert.ReferenceFirstIdeal.nD Cert.ReferenceFirstIdeal.τ).loc Cert.ReferenceFirstIdeal.main_arg6) = m' ((c.tc : Thread Cert.ReferenceFirstIdeal.nD Cert.ReferenceFirstIdeal.τ).loc Cert.ReferenceFirstIdeal.main_arg6))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v8)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v8) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v20) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def Claim : Prop :=
  ∃ (hKernel : Cert.Kernel.Facts) (hKernelIdeal : Cert.KernelIdeal.Facts) (hReferenceIdeal : Cert.ReferenceIdeal.Facts) (hKernelFfn : Cert.KernelFfn.Facts) (hKernelFfnIdeal : Cert.KernelFfnIdeal.Facts) (hReferenceFfnIdeal : Cert.ReferenceFfnIdeal.Facts) (hKernelEven : Cert.KernelEven.Facts) (hKernelEvenIdeal : Cert.KernelEvenIdeal.Facts) (hReferenceEvenIdeal : Cert.ReferenceEvenIdeal.Facts) (hKernelOdd : Cert.KernelOdd.Facts) (hKernelOddIdeal : Cert.KernelOddIdeal.Facts) (hReferenceOddIdeal : Cert.ReferenceOddIdeal.Facts) (hKernelFirst : Cert.KernelFirst.Facts) (hKernelFirstIdeal : Cert.KernelFirstIdeal.Facts) (hReferenceFirstIdeal : Cert.ReferenceFirstIdeal.Facts) (hKernelProj : Cert.KernelProj.Facts) (hKernelProjIdeal : Cert.KernelProjIdeal.Facts) (hReferenceProjIdeal : Cert.ReferenceProjIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelEven (hKernelEven := hKernelEven)
    ∧ quiescent_KernelEvenIdeal (hKernelEvenIdeal := hKernelEvenIdeal)
    ∧ quiescent_ReferenceEvenIdeal (hReferenceEvenIdeal := hReferenceEvenIdeal)
    ∧ quiescent_KernelOdd (hKernelOdd := hKernelOdd)
    ∧ quiescent_KernelOddIdeal (hKernelOddIdeal := hKernelOddIdeal)
    ∧ quiescent_ReferenceOddIdeal (hReferenceOddIdeal := hReferenceOddIdeal)
    ∧ quiescent_KernelFirst (hKernelFirst := hKernelFirst)
    ∧ quiescent_KernelFirstIdeal (hKernelFirstIdeal := hKernelFirstIdeal)
    ∧ quiescent_ReferenceFirstIdeal (hReferenceFirstIdeal := hReferenceFirstIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelEven_KernelEvenIdeal
    ∧ algebraic_KernelEvenIdeal_ReferenceEvenIdeal (hKernelEvenIdeal := hKernelEvenIdeal) (hReferenceEvenIdeal := hReferenceEvenIdeal)
    ∧ preserves_KernelOdd_KernelOddIdeal
    ∧ algebraic_KernelOddIdeal_ReferenceOddIdeal (hKernelOddIdeal := hKernelOddIdeal) (hReferenceOddIdeal := hReferenceOddIdeal)
    ∧ preserves_KernelFirst_KernelFirstIdeal
    ∧ algebraic_KernelFirstIdeal_ReferenceFirstIdeal (hKernelFirstIdeal := hKernelFirstIdeal) (hReferenceFirstIdeal := hReferenceFirstIdeal)
    ∧ preserves_KernelProj_KernelProjIdeal
    ∧ algebraic_KernelProjIdeal_ReferenceProjIdeal (hKernelProjIdeal := hKernelProjIdeal) (hReferenceProjIdeal := hReferenceProjIdeal)
-- ==== Pre_finite.lean ====
abbrev S33280x2304 : Shape := ⟨2, ![33280, 2304]⟩
abbrev S8 : Shape := ⟨1, ![8]⟩
abbrev S33280x640 : Shape := ⟨2, ![33280, 640]⟩
abbrev S_ : Shape := ⟨0, ![]⟩

class Facts : Prop where
  slices_S33280x2304_S33280x640_0_0 : S33280x2304.Slices ![0, 0] S33280x640
  bcast_S_S33280x640 : S_.BroadcastsInDim S33280x640 (![] : Fin 0 → Fin S33280x640.rank)
  bcast_S_S8 : S_.BroadcastsInDim S8 (![] : Fin 0 → Fin S8.rank)

variable [Facts]

def fn {F : FTy → Type} [FloatOps F] (main_arg0 : FVec F S33280x2304 .bf16) (main_arg1 : FVec F S8 .f32) : IVec S33280x640 1 × IVec S8 1 :=
  let main_v0 : FVec F S33280x640 .bf16 := (extractStridedSlice S33280x640 ![0, 0] · slices_S33280x2304_S33280x640_0_0) main_arg0
  let main_v1 : FVec F S33280x640 .bf16 := Host.absf main_v0
  let main_cst : FVec F S_ .bf16 := constant S_ .bf16 0x7F80#16
  let main_v2 : FVec F S33280x640 .bf16 := broadcastInDim S33280x640 ![] bcast_S_S33280x640 main_cst
  let main_v3 : IVec S33280x640 1 := cmpf .olt main_v1 main_v2
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  (main_v3, main_v6)
-- ==== Kernel.lean ====
abbrev S33280x2304 : Shape := ⟨2, ![33280, 2304]⟩
abbrev S8 : Shape := ⟨1, ![8]⟩
abbrev S33280x512 : Shape := ⟨2, ![33280, 512]⟩
abbrev S33280x2x4x64 : Shape := ⟨4, ![33280, 2, 4, 64]⟩
abbrev S33280x4x2x64 : Shape := ⟨4, ![33280, 4, 2, 64]⟩
abbrev S33280x1792 : Shape := ⟨2, ![33280, 1792]⟩
abbrev S1664x512 : Shape := ⟨2, ![1664, 512]⟩
abbrev S1664x128 : Shape := ⟨2, ![1664, 128]⟩
abbrev S128x128 : Shape := ⟨2, ![128, 128]⟩
abbrev S512x128 : Shape := ⟨2, ![512, 128]⟩
abbrev S1 : Shape := ⟨1, ![1]⟩
abbrev S128x1 : Shape := ⟨2, ![128, 1]⟩
abbrev S512x1 : Shape := ⟨2, ![512, 1]⟩
abbrev S512 : Shape := ⟨1, ![512]⟩

abbrev nBuf : Space → Nat
  | .hbm => 9
  | .vmem => 16
  | .smem => 1
  | _ => 0

abbrev bufTy : (tb : Table) → Fin (tcTables nBuf tb) → BufTy
  | .hbm, ⟨0, _⟩ => ⟨S33280x2304, .bf16⟩
  | .hbm, ⟨1, _⟩ => ⟨S8, .f32⟩
  | .hbm, ⟨2, _⟩ => ⟨S33280x512, .bf16⟩
  | .hbm, ⟨3, _⟩ => ⟨S33280x2x4x64, .bf16⟩
  | .hbm, ⟨4, _⟩ => ⟨S33280x4x2x64, .bf16⟩
  | .hbm, ⟨5, _⟩ => ⟨S33280x512, .bf16⟩
  | .hbm, ⟨6, _⟩ => ⟨S33280x1792, .bf16⟩
  | .hbm, ⟨7, _⟩ => ⟨S33280x2304, .bf16⟩
  | .hbm, ⟨8, _⟩ => ⟨S33280x512, .bf16⟩
  | .local _ .vmem, ⟨0, _⟩ => ⟨S1664x512, .bf16⟩
  | .local _ .vmem, ⟨1, _⟩ => ⟨S1664x512, .bf16⟩
  | .local _ .vmem, ⟨2, _⟩ => ⟨S1664x128, .bf16⟩
  | .local _ .vmem, ⟨3, _⟩ => ⟨S1664x128, .bf16⟩
  | .local _ .vmem, ⟨4, _⟩ => ⟨S1664x128, .bf16⟩
  | .local _ .vmem, ⟨5, _⟩ => ⟨S1664x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S1664x512, .bf16⟩
  | .local _ .vmem, ⟨15, _⟩ => ⟨S1664x512, .bf16⟩
  | .local _ .smem, ⟨0, _⟩ => ⟨S8, .f32⟩
  | _, _ => ⟨S33280x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c5_i32_0 : BitVec 32 := 5#32
  let c0_i32 : BitVec 32 := 0#32
  ![v1.toNat, c5_i32_0.toNat]

def cc0_transform_3 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let c13_i32 : BitVec 32 := 13#32
  let v1 : BitVec 32 := Scalar.muli arg1 c13_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c4_i32 : BitVec 32 := 4#32
  let c0_i32_0 : BitVec 32 := 0#32
  ![v4.toNat, c4_i32.toNat]

def cc0_transform_4 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let c13_i32 : BitVec 32 := 13#32
  let v1 : BitVec 32 := Scalar.muli arg1 c13_i32
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c5_i32 : BitVec 32 := 5#32
  let c0_i32_0 : BitVec 32 := 0#32
  ![v4.toNat, c5_i32.toNat]

def cc0_transform_5 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let c4_i32 : BitVec 32 := 4#32
  let c0_i32 : BitVec 32 := 0#32
  ![v0.toNat, c4_i32.toNat]

def cc0_transform_6 (i : grid0.Coords) : Fin 2 → Nat :=
  let arg0 : BitVec 32 := BitVec.ofNat 32 (i 0).val
  let arg1 : BitVec 32 := BitVec.ofNat 32 (i 1).val
  let c65_i32 : BitVec 32 := 65#32
  let v0 : BitVec 32 := Scalar.muli arg0 c65_i32
  let c5_i32 : BitVec 32 := 5#32
  let c0_i32 : BitVec 32 := 0#32
  ![v0.toNat, c5_i32.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1664x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1664x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1664x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .smem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1664x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S33280x2304 : Shape := ⟨2, ![33280, 2304]⟩
abbrev S8 : Shape := ⟨1, ![8]⟩
abbrev S4x8320x2304 : Shape := ⟨3, ![4, 8320, 2304]⟩
abbrev S4x8320x512 : Shape := ⟨3, ![4, 8320, 512]⟩
abbrev S4x8320x8x64 : Shape := ⟨4, ![4, 8320, 8, 64]⟩
abbrev S4x8320x128 : Shape := ⟨3, ![4, 8320, 128]⟩
abbrev S4x8320x2x64 : Shape := ⟨4, ![4, 8320, 2, 64]⟩
abbrev S4x65x128x2x4x64 : Shape := ⟨6, ![4, 65, 128, 2, 4, 64]⟩
abbrev S_ : Shape := ⟨0, ![]⟩
abbrev S4x65x128x2x64 : Shape := ⟨5, ![4, 65, 128, 2, 64]⟩
abbrev S4x66x128x2x64 : Shape := ⟨5, ![4, 66, 128, 2, 64]⟩
abbrev S4x16x2x64 : Shape := ⟨4, ![4, 16, 2, 64]⟩
abbrev S4x1x16x2x64 : Shape := ⟨5, ![4, 1, 16, 2, 64]⟩
abbrev S4x65x16x2x64 : Shape := ⟨5, ![4, 65, 16, 2, 64]⟩
abbrev S4x65x272x2x64 : Shape := ⟨5, ![4, 65, 272, 2, 64]⟩
abbrev S65 : Shape := ⟨1, ![65]⟩
abbrev S65x1 : Shape := ⟨2, ![65, 1]⟩
abbrev S128 : Shape := ⟨1, ![128]⟩
abbrev S1x128 : Shape := ⟨2, ![1, 128]⟩
abbrev S65x128 : Shape := ⟨2, ![65, 128]⟩
abbrev S256 : Shape := ⟨1, ![256]⟩
abbrev S1x256 : Shape := ⟨2, ![1, 256]⟩
abbrev S65x256 : Shape := ⟨2, ![65, 256]⟩
abbrev S65x128x1 : Shape := ⟨3, ![65, 128, 1]⟩
abbrev S65x1x256 : Shape := ⟨3, ![65, 1, 256]⟩
abbrev S65x128x256 : Shape := ⟨3, ![65, 128, 256]⟩
abbrev S16 : Shape := ⟨1, ![16]⟩
abbrev S1x1x16 : Shape := ⟨3, ![1, 1, 16]⟩
abbrev S65x128x16 : Shape := ⟨3, ![65, 128, 16]⟩
abbrev S65x128x272 : Shape := ⟨3, ![65, 128, 272]⟩
abbrev S4x65x2x272x128x4 : Shape := ⟨6, ![4, 65, 2, 272, 128, 4]⟩
abbrev S4x65x2x4x128x272 : Shape := ⟨6, ![4, 65, 2, 4, 128, 272]⟩
abbrev S1x65x1x1x128x272 : Shape := ⟨6, ![1, 65, 1, 1, 128, 272]⟩
abbrev S1x1x2x4x1x1 : Shape := ⟨6, ![1, 1, 2, 4, 1, 1]⟩
abbrev S4x65x2x4x128x1 : Shape := ⟨6, ![4, 65, 2, 4, 128, 1]⟩
abbrev S4x65x2x4x128x273 : Shape := ⟨6, ![4, 65, 2, 4, 128, 273]⟩
abbrev S4x65x2x4x128 : Shape := ⟨5, ![4, 65, 2, 4, 128]⟩
abbrev S4x65x2x64x4x128 : Shape := ⟨6, ![4, 65, 2, 64, 4, 128]⟩
abbrev S4x65x128x4x2x64 : Shape := ⟨6, ![4, 65, 128, 4, 2, 64]⟩
abbrev S33280x512 : Shape := ⟨2, ![33280, 512]⟩

abbrev nBuf : Space → Nat
  | .hbm => 113
  | .vmem => 0
  | .smem => 0
  | _ => 0

abbrev bufTy : (tb : Table) → Fin (tcTables nBuf tb) → BufTy
  | .hbm, ⟨0, _⟩ => ⟨S33280x2304, .bf16⟩
  | .hbm, ⟨1, _⟩ => ⟨S8, .f32⟩
  | .hbm, ⟨2, _⟩ => ⟨S33280x2304, .f32⟩
  | .hbm, ⟨3, _⟩ => ⟨S4x8320x2304, .f32⟩
  | .hbm, ⟨4, _⟩ => ⟨S4x8320x512, .f32⟩
  | .hbm, ⟨5, _⟩ => ⟨S4x8320x8x64, .f32⟩
  | .hbm, ⟨6, _⟩ => ⟨S4x8320x128, .f32⟩
  | .hbm, ⟨7, _⟩ => ⟨S4x8320x2x64, .f32⟩
  | .hbm, ⟨8, _⟩ => ⟨S4x8320x128, .f32⟩
  | .hbm, ⟨9, _⟩ => ⟨S4x8320x2x64, .f32⟩
  | .hbm, ⟨10, _⟩ => ⟨S4x65x128x2x4x64, .f32⟩
  | .hbm, ⟨11, _⟩ => ⟨S_, .f32⟩
  | .hbm, ⟨12, _⟩ => ⟨S4x65x128x2x4x64, .f32⟩
  | .hbm, ⟨13, _⟩ => ⟨S4x65x128x2x4x64, .f32⟩
  | .hbm, ⟨14, _⟩ => ⟨S4x65x128x2x64, .f32⟩
  | .hbm, ⟨15, _⟩ => ⟨S4x65x128x2x64, .f32⟩
  | .hbm, ⟨16, _⟩ => ⟨S_, .i32⟩
  | .hbm, ⟨17, _⟩ => ⟨S_, .f32⟩
  | .hbm, ⟨18, _⟩ => ⟨S4x66x128x2x64, .f32⟩
  | .hbm, ⟨19, _⟩ => ⟨S4x65x128x2x64, .f32⟩
  | .hbm, ⟨20, _⟩ => ⟨S_, .i32⟩
  | .hbm, ⟨21, _⟩ => ⟨S_, .f32⟩
  | .hbm, ⟨22, _⟩ => ⟨S4x66x128x2x64, .f32⟩
  | .hbm, ⟨23, _⟩ => ⟨S4x65x128x2x64, .f32⟩
  | .hbm, ⟨24, _⟩ => ⟨S4x16x2x64, .f32⟩
  | .hbm, ⟨25, _⟩ => ⟨S4x1x16x2x64, .f32⟩
  | .hbm, ⟨26, _⟩ => ⟨S4x65x16x2x64, .f32⟩
  | .hbm, ⟨27, _⟩ => ⟨S4x16x2x64, .f32⟩
  | .hbm, ⟨28, _⟩ => ⟨S4x1x16x2x64, .f32⟩
  | .hbm, ⟨29, _⟩ => ⟨S4x65x16x2x64, .f32⟩
  | .hbm, ⟨30, _⟩ => ⟨S4x65x272x2x64, .f32⟩
  | .hbm, ⟨31, _⟩ => ⟨S4x65x272x2x64, .f32⟩
  | .hbm, ⟨32, _⟩ => ⟨S65, .i32⟩
  | .hbm, ⟨33, _⟩ => ⟨S65x1, .i32⟩
  | .hbm, ⟨34, _⟩ => ⟨S_, .i32⟩
  | .hbm, ⟨35, _⟩ => ⟨S65x1, .i32⟩
  | .hbm, ⟨36, _⟩ => ⟨S65x1, .i32⟩
  | .hbm, ⟨37, _⟩ => ⟨S128, .i32⟩
  | .hbm, ⟨38, _⟩ => ⟨S1x128, .i32⟩
  | .hbm, ⟨39, _⟩ => ⟨S65x128, .i32⟩
  | .hbm, ⟨40, _⟩ => ⟨S65x128, .i32⟩
  | .hbm, ⟨41, _⟩ => ⟨S65x128, .i32⟩
  | .hbm, ⟨42, _⟩ => ⟨S65x1, .i32⟩
  | .hbm, ⟨43, _⟩ => ⟨S_, .i32⟩
  | .hbm, ⟨44, _⟩ => ⟨S65x1, .i32⟩
  | .hbm, ⟨45, _⟩ => ⟨S65x1, .i32⟩
  | .hbm, ⟨46, _⟩ => ⟨S_, .i32⟩
  | .hbm, ⟨47, _⟩ => ⟨S65x1, .i32⟩
  | .hbm, ⟨48, _⟩ => ⟨S65x1, .i32⟩
  | .hbm, ⟨49, _⟩ => ⟨S256, .i32⟩
  | .hbm, ⟨50, _⟩ => ⟨S1x256, .i32⟩
  | .hbm, ⟨51, _⟩ => ⟨S65x256, .i32⟩
  | .hbm, ⟨52, _⟩ => ⟨S65x256, .i32⟩
  | .hbm, ⟨53, _⟩ => ⟨S65x256, .i32⟩
  | .hbm, ⟨54, _⟩ => ⟨S65x128x1, .i32⟩
  | .hbm, ⟨55, _⟩ => ⟨S65x1x256, .i32⟩
  | .hbm, ⟨56, _⟩ => ⟨S65x128x256, .i32⟩
  | .hbm, ⟨57, _⟩ => ⟨S65x128x256, .i32⟩
  | .hbm, ⟨58, _⟩ => ⟨S65x128x256, .i32⟩
  | .hbm, ⟨59, _⟩ => ⟨S_, .i32⟩
  | .hbm, ⟨60, _⟩ => ⟨S65x128x256, .i32⟩
  | .hbm, ⟨61, _⟩ => ⟨S65x128x256, .i1⟩
  | .hbm, ⟨62, _⟩ => ⟨S_, .i32⟩
  | .hbm, ⟨63, _⟩ => ⟨S65x128x256, .i32⟩
  | .hbm, ⟨64, _⟩ => ⟨S65x128x256, .i1⟩
  | .hbm, ⟨65, _⟩ => ⟨S65x128x256, .i1⟩
  | .hbm, ⟨66, _⟩ => ⟨S65x1x256, .i32⟩
  | .hbm, ⟨67, _⟩ => ⟨S_, .i32⟩
  | .hbm, ⟨68, _⟩ => ⟨S65x1x256, .i32⟩
  | .hbm, ⟨69, _⟩ => ⟨S65x1x256, .i1⟩
  | .hbm, ⟨70, _⟩ => ⟨S65x128x256, .i1⟩
  | .hbm, ⟨71, _⟩ => ⟨S65x128x256, .i1⟩
  | .hbm, ⟨72, _⟩ => ⟨S16, .i32⟩
  | .hbm, ⟨73, _⟩ => ⟨S_, .i32⟩
  | .hbm, ⟨74, _⟩ => ⟨S16, .i32⟩
  | .hbm, ⟨75, _⟩ => ⟨S16, .i32⟩
  | .hbm, ⟨76, _⟩ => ⟨S1x1x16, .i32⟩
  | .hbm, ⟨77, _⟩ => ⟨S65x128x1, .i32⟩
  | .hbm, ⟨78, _⟩ => ⟨S65x128x16, .i32⟩
  | .hbm, ⟨79, _⟩ => ⟨S65x128x16, .i32⟩
  | .hbm, ⟨80, _⟩ => ⟨S65x128x16, .i1⟩
  | .hbm, ⟨81, _⟩ => ⟨S65x128x272, .i1⟩
  | .hbm, ⟨82, _⟩ => ⟨S4x65x2x272x128x4, .f32⟩
  | .hbm, ⟨83, _⟩ => ⟨S4x65x2x4x128x272, .f32⟩
  | .hbm, ⟨84, _⟩ => ⟨S1x65x1x1x128x272, .i1⟩
  | .hbm, ⟨85, _⟩ => ⟨S_, .f32⟩
  | .hbm, ⟨86, _⟩ => ⟨S_, .f32⟩
  | .hbm, ⟨87, _⟩ => ⟨S4x65x2x4x128x272, .i1⟩
  | .hbm, ⟨88, _⟩ => ⟨S4x65x2x4x128x272, .f32⟩
  | .hbm, ⟨89, _⟩ => ⟨S4x65x2x4x128x272, .f32⟩
  | .hbm, ⟨90, _⟩ => ⟨S1x1x2x4x1x1, .f32⟩
  | .hbm, ⟨91, _⟩ => ⟨S4x65x2x4x128x1, .f32⟩
  | .hbm, ⟨92, _⟩ => ⟨S4x65x2x4x128x273, .f32⟩
  | .hbm, ⟨93, _⟩ => ⟨S_, .f32⟩
  | .hbm, ⟨94, _⟩ => ⟨S4x65x2x4x128, .f32⟩
  | .hbm, ⟨95, _⟩ => ⟨S_, .f32⟩
  | .hbm, ⟨96, _⟩ => ⟨S4x65x2x4x128, .f32⟩
  | .hbm, ⟨97, _⟩ => ⟨S4x65x2x4x128, .f32⟩
  | .hbm, ⟨98, _⟩ => ⟨S4x65x2x4x128x1, .f32⟩
  | .hbm, ⟨99, _⟩ => ⟨S4x65x2x4x128x273, .f32⟩
  | .hbm, ⟨100, _⟩ => ⟨S4x65x2x4x128x273, .f32⟩
  | .hbm, ⟨101, _⟩ => ⟨S4x65x2x4x128x273, .f32⟩
  | .hbm, ⟨102, _⟩ => ⟨S_, .f32⟩
  | .hbm, ⟨103, _⟩ => ⟨S4x65x2x4x128, .f32⟩
  | .hbm, ⟨104, _⟩ => ⟨S4x65x2x4x128x1, .f32⟩
  | .hbm, ⟨105, _⟩ => ⟨S4x65x2x4x128x273, .f32⟩
  | .hbm, ⟨106, _⟩ => ⟨S4x65x2x4x128x273, .f32⟩
  | .hbm, ⟨107, _⟩ => ⟨S4x65x2x4x128x272, .f32⟩
  | .hbm, ⟨108, _⟩ => ⟨S4x65x2x64x4x128, .f32⟩
  | .hbm, ⟨109, _⟩ => ⟨S4x65x128x2x4x64, .f32⟩
  | .hbm, ⟨110, _⟩ => ⟨S4x65x128x4x2x64, .f32⟩
  | .hbm, ⟨111, _⟩ => ⟨S33280x512, .f32⟩
  | .hbm, ⟨112, _⟩ => ⟨S33280x512, .bf16⟩
  | _, _ => ⟨S33280x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_2 : Ref sig .tc := ⟨.hbm, 43, rfl⟩
abbrev main_v35 : Ref sig .tc := ⟨.hbm, 44, rfl⟩
abbrev main_v36 : Ref sig .tc := ⟨.hbm, 45, rfl⟩
abbrev main_c_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_c_4 : Ref sig .tc := ⟨.hbm, 59, rfl⟩
abbrev main_v49 : Ref sig .tc := ⟨.hbm, 60, rfl⟩
abbrev main_v50 : Ref sig .tc := ⟨.hbm, 61, rfl⟩
abbrev main_c_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_c_6 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_c_7 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_cst_8 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_cst_10 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_11 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩

abbrev nD : Nat := 1
abbrev τ : Topo := Topo.v7x

variable {F : FTy → Type} [FloatOps F]
-- ==== KernelFfn.lean ====
abbrev S33280x1024 : Shape := ⟨2, ![33280, 1024]⟩
abbrev S1024 : Shape := ⟨1, ![1024]⟩
abbrev S1024x2816 : Shape := ⟨2, ![1024, 2816]⟩
abbrev S2816x1024 : Shape := ⟨2, ![2816, 1024]⟩
abbrev S33280x512 : Shape := ⟨2, ![33280, 512]⟩
abbrev S1024x1024 : Shape := ⟨2, ![1024, 1024]⟩
abbrev S33280x2x4x64 : Shape := ⟨4, ![33280, 2, 4, 64]⟩
abbrev S33280x4x2x64 : Shape := ⟨4, ![33280, 4, 2, 64]⟩
abbrev S33280x0 : Shape := ⟨2, ![33280, 0]⟩
abbrev S512x1024 : Shape := ⟨2, ![512, 1024]⟩
abbrev S2x4x64x1024 : Shape := ⟨4, ![2, 4, 64, 1024]⟩
abbrev S4x2x64x1024 : Shape := ⟨4, ![4, 2, 64, 1024]⟩
abbrev S1x1024 : Shape := ⟨2, ![1, 1024]⟩
abbrev S32768x1024 : Shape := ⟨2, ![32768, 1024]⟩
abbrev S512x512 : Shape := ⟨2, ![512, 512]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 31
  | .vmem => 18
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S33280x512, .bf16⟩
  | .hbm, ⟨8, _⟩ => ⟨S33280x512, .bf16⟩
  | .hbm, ⟨9, _⟩ => ⟨S1024x1024, .f32⟩
  | .hbm, ⟨10, _⟩ => ⟨S33280x2x4x64, .bf16⟩
  | .hbm, ⟨11, _⟩ => ⟨S33280x4x2x64, .bf16⟩
  | .hbm, ⟨12, _⟩ => ⟨S33280x512, .bf16⟩
  | .hbm, ⟨13, _⟩ => ⟨S33280x0, .bf16⟩
  | .hbm, ⟨14, _⟩ => ⟨S33280x512, .bf16⟩
  | .hbm, ⟨15, _⟩ => ⟨S1024x1024, .bf16⟩
  | .hbm, ⟨16, _⟩ => ⟨S512x1024, .bf16⟩
  | .hbm, ⟨17, _⟩ => ⟨S2x4x64x1024, .bf16⟩
  | .hbm, ⟨18, _⟩ => ⟨S4x2x64x1024, .bf16⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S1024x2816, .bf16⟩
  | .hbm, ⟨25, _⟩ => ⟨S1024x2816, .bf16⟩
  | .hbm, ⟨26, _⟩ => ⟨S2816x1024, .bf16⟩
  | .hbm, ⟨27, _⟩ => ⟨S1x1024, .f32⟩
  | .hbm, ⟨28, _⟩ => ⟨S512x1024, .bf16⟩
  | .hbm, ⟨29, _⟩ => ⟨S512x1024, .bf16⟩
  | .hbm, ⟨30, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x2816, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c65_i32 : BitVec 32 := 65#32
  let v17 : BitVec 32 := Scalar.muli v16 c65_i32
  let c1_i32_4 : BitVec 32 := 1#32
  let v18 : BitVec 32 := Scalar.addi v17 c1_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.muli v28 c4_i32
  let v30 : BitVec 32 := Scalar.addi v18 v29
  let c128_i32 : BitVec 32 := 128#32
  let v31 : BitVec 32 := Scalar.muli c128_i32 v30
  let c0_i32_11 : BitVec 32 := 0#32
  let c0_i32_12 : BitVec 32 := 0#32
  ![v31.toNat, c0_i32_11.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c65_i32 : BitVec 32 := 65#32
  let v17 : BitVec 32 := Scalar.muli v16 c65_i32
  let c1_i32_4 : BitVec 32 := 1#32
  let v18 : BitVec 32 := Scalar.addi v17 c1_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.muli v28 c4_i32
  let v30 : BitVec 32 := Scalar.addi v18 v29
  let c128_i32 : BitVec 32 := 128#32
  let v31 : BitVec 32 := Scalar.muli c128_i32 v30
  let c0_i32_11 : BitVec 32 := 0#32
  let c0_i32_12 : BitVec 32 := 0#32
  ![v31.toNat, c0_i32_11.toNat]

def cc0_transform_7 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c65_i32 : BitVec 32 := 65#32
  let v17 : BitVec 32 := Scalar.muli v16 c65_i32
  let c1_i32_4 : BitVec 32 := 1#32
  let v18 : BitVec 32 := Scalar.addi v17 c1_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c4_i32 : BitVec 32 := 4#32
  let v29 : BitVec 32 := Scalar.muli v28 c4_i32
  let v30 : BitVec 32 := Scalar.addi v18 v29
  let c128_i32 : BitVec 32 := 128#32
  let v31 : BitVec 32 := Scalar.muli c128_i32 v30
  let c0_i32_11 : BitVec 32 := 0#32
  let c0_i32_12 : BitVec 32 := 0#32
  ![v31.toNat, c0_i32_11.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceFfnIdeal.lean ====
abbrev S33280x1024 : Shape := ⟨2, ![33280, 1024]⟩
abbrev S1024 : Shape := ⟨1, ![1024]⟩
abbrev S1024x2816 : Shape := ⟨2, ![1024, 2816]⟩
abbrev S2816x1024 : Shape := ⟨2, ![2816, 1024]⟩
abbrev S33280x512 : Shape := ⟨2, ![33280, 512]⟩
abbrev S1024x1024 : Shape := ⟨2, ![1024, 1024]⟩
abbrev S4x8320x1024 : Shape := ⟨3, ![4, 8320, 1024]⟩
abbrev S4x8192x1024 : Shape := ⟨3, ![4, 8192, 1024]⟩
abbrev S4x8320x512 : Shape := ⟨3, ![4, 8320, 512]⟩
abbrev S4x8192x512 : Shape := ⟨3, ![4, 8192, 512]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2816 : Shape := ⟨3, ![4, 8192, 2816]⟩
abbrev S32768x1024 : Shape := ⟨2, ![32768, 1024]⟩

abbrev nBuf : Space → Nat
  | .hbm => 87
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S33280x512, .bf16⟩
  | .hbm, ⟨8, _⟩ => ⟨S33280x512, .bf16⟩
  | .hbm, ⟨9, _⟩ => ⟨S1024x1024, .f32⟩
  | .hbm, ⟨10, _⟩ => ⟨S4x8320x1024, .f32⟩
  | .hbm, ⟨11, _⟩ => ⟨S4x8192x1024, .f32⟩
  | .hbm, ⟨12, _⟩ => ⟨S33280x512, .f32⟩
  | .hbm, ⟨13, _⟩ => ⟨S4x8320x512, .f32⟩
  | .hbm, ⟨14, _⟩ => ⟨S4x8192x512, .f32⟩
  | .hbm, ⟨15, _⟩ => ⟨S33280x512, .f32⟩
  | .hbm, ⟨16, _⟩ => ⟨S4x8320x512, .f32⟩
  | .hbm, ⟨17, _⟩ => ⟨S4x8192x512, .f32⟩
  | .hbm, ⟨18, _⟩ => ⟨S4x8192x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S_, .f32⟩
  | .hbm, ⟨25, _⟩ => ⟨S4x8192x1, .f32⟩
  | .hbm, ⟨26, _⟩ => ⟨S4x8192x1, .f32⟩
  | .hbm, ⟨27, _⟩ => ⟨S_, .f32⟩
  | .hbm, ⟨28, _⟩ => ⟨S4x8192x1, .f32⟩
  | .hbm, ⟨29, _⟩ => ⟨S4x8192x1, .f32⟩
  | .hbm, ⟨30, _⟩ => ⟨S4x8192x1, .f32⟩
  | .hbm, ⟨31, _⟩ => ⟨S4x8192x1024, .f32⟩
  | .hbm, ⟨32, _⟩ => ⟨S4x8192x1024, .f32⟩
  | .hbm, ⟨33, _⟩ => ⟨S1x1x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S_, .f32⟩
  | .hbm, ⟨45, _⟩ => ⟨S4x8192x1, .f32⟩
  | .hbm, ⟨46, _⟩ => ⟨S4x8192x1, .f32⟩
  | .hbm, ⟨47, _⟩ => ⟨S4x8192x1, .f32⟩
  | .hbm, ⟨48, _⟩ => ⟨S4x8192x1024, .f32⟩
  | .hbm, ⟨49, _⟩ => ⟨S4x8192x1024, .f32⟩
  | .hbm, ⟨50, _⟩ => ⟨S1x1x1024, .f32⟩
  | .hbm, ⟨51, _⟩ => ⟨S4x8192x1024, .f32⟩
  | .hbm, ⟨52, _⟩ => ⟨S4x8192x1024, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S_, .f32⟩
  | .hbm, ⟨57, _⟩ => ⟨S4x8192x2816, .f32⟩
  | .hbm, ⟨58, _⟩ => ⟨S4x8192x2816, .f32⟩
  | .hbm, ⟨59, _⟩ => ⟨S_, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S4x8192x2816, .f32⟩
  | .hbm, ⟨65, _⟩ => ⟨S4x8192x1024, .f32⟩
  | .hbm, ⟨66, _⟩ => ⟨S4x8192x1024, .f32⟩
  | .hbm, ⟨67, _⟩ => ⟨S_, .f32⟩
  | .hbm, ⟨68, _⟩ => ⟨S4x8192, .f32⟩
  | .hbm, ⟨69, _⟩ => ⟨S4x8192x1, .f32⟩
  | .hbm, ⟨70, _⟩ => ⟨S_, .f32⟩
  | .hbm, ⟨71, _⟩ => ⟨S4x8192x1, .f32⟩
  | .hbm, ⟨72, _⟩ => ⟨S4x8192x1, .f32⟩
  | .hbm, ⟨73, _⟩ => ⟨S_, .f32⟩
  | .hbm, ⟨74, _⟩ => ⟨S4x8192x1, .f32⟩
  | .hbm, ⟨75, _⟩ => ⟨S4x8192x1, .f32⟩
  | .hbm, ⟨76, _⟩ => ⟨S4x8192x1, .f32⟩
  | .hbm, ⟨77, _⟩ => ⟨S4x8192x1024, .f32⟩
  | .hbm, ⟨78, _⟩ => ⟨S4x8192x1024, .f32⟩
  | .hbm, ⟨79, _⟩ => ⟨S1x1x1024, .f32⟩
  | .hbm, ⟨80, _⟩ => ⟨S4x8192x1024, .f32⟩
  | .hbm, ⟨81, _⟩ => ⟨S4x8192x1024, .f32⟩
  | .hbm, ⟨82, _⟩ => ⟨S_, .f32⟩
  | .hbm, ⟨83, _⟩ => ⟨S4x8192x1024, .f32⟩
  | .hbm, ⟨84, _⟩ => ⟨S4x8192x1024, .f32⟩
  | .hbm, ⟨85, _⟩ => ⟨S4x8192x1024, .f32⟩
  | .hbm, ⟨86, _⟩ => ⟨S32768x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_cst_6 : Ref sig .tc := ⟨.hbm, 70, rfl⟩
abbrev main_v45 : Ref sig .tc := ⟨.hbm, 71, rfl⟩
abbrev main_v46 : Ref sig .tc := ⟨.hbm, 72, rfl⟩
abbrev main_cst_7 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩

abbrev nD : Nat := 1
abbrev τ : Topo := Topo.v7x

variable {F : FTy → Type} [FloatOps F]
-- ==== KernelEven.lean ====
abbrev S33280x1024 : Shape := ⟨2, ![33280, 1024]⟩
abbrev S1024 : Shape := ⟨1, ![1024]⟩
abbrev S1024x2816 : Shape := ⟨2, ![1024, 2816]⟩
abbrev S2816x1024 : Shape := ⟨2, ![2816, 1024]⟩
abbrev S33280x512 : Shape := ⟨2, ![33280, 512]⟩
abbrev S1024x1024 : Shape := ⟨2, ![1024, 1024]⟩
abbrev S1x1024 : Shape := ⟨2, ![1, 1024]⟩
abbrev S512x1024 : Shape := ⟨2, ![512, 1024]⟩
abbrev S640x1024 : Shape := ⟨2, ![640, 1024]⟩
abbrev S640x512 : Shape := ⟨2, ![640, 512]⟩
abbrev S640x2816 : Shape := ⟨2, ![640, 2816]⟩
abbrev S640 : Shape := ⟨1, ![640]⟩
abbrev S640x1 : Shape := ⟨2, ![640, 1]⟩
abbrev S1024x256 : Shape := ⟨2, ![1024, 256]⟩
abbrev S640x256 : Shape := ⟨2, ![640, 256]⟩

abbrev nBuf : Space → Nat
  | .hbm => 20
  | .vmem => 18
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S33280x512, .bf16⟩
  | .hbm, ⟨8, _⟩ => ⟨S33280x512, .bf16⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S1024x1024, .bf16⟩
  | .hbm, ⟨16, _⟩ => ⟨S1x1024, .f32⟩
  | .hbm, ⟨17, _⟩ => ⟨S512x1024, .bf16⟩
  | .hbm, ⟨18, _⟩ => ⟨S512x1024, .bf16⟩
  | .hbm, ⟨19, _⟩ => ⟨S33280x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S640x512, .bf16⟩
  | .local _ .vmem, ⟨8, _⟩ => ⟨S640x512, .bf16⟩
  | .local _ .vmem, ⟨9, _⟩ => ⟨S640x512, .bf16⟩
  | .local _ .vmem, ⟨10, _⟩ => ⟨S640x512, .bf16⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S640x1024, .f32⟩
  | .local _ .vmem, ⟨15, _⟩ => ⟨S640x1024, .f32⟩
  | .local _ .vmem, ⟨16, _⟩ => ⟨S640x1024, .bf16⟩
  | .local _ .vmem, ⟨17, _⟩ => ⟨S640x2816, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S640x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceEvenIdeal.lean ====
abbrev S33280x1024 : Shape := ⟨2, ![33280, 1024]⟩
abbrev S1024 : Shape := ⟨1, ![1024]⟩
abbrev S1024x2816 : Shape := ⟨2, ![1024, 2816]⟩
abbrev S2816x1024 : Shape := ⟨2, ![2816, 1024]⟩
abbrev S33280x512 : Shape := ⟨2, ![33280, 512]⟩
abbrev S1024x1024 : Shape := ⟨2, ![1024, 1024]⟩
abbrev S_ : Shape := ⟨0, ![]⟩
abbrev S33280 : Shape := ⟨1, ![33280]⟩
abbrev S33280x1 : Shape := ⟨2, ![33280, 1]⟩
abbrev S1x1024 : Shape := ⟨2, ![1, 1024]⟩
abbrev S33280x2816 : Shape := ⟨2, ![33280, 2816]⟩

abbrev nBuf : Space → Nat
  | .hbm => 80
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S33280x512, .bf16⟩
  | .hbm, ⟨8, _⟩ => ⟨S33280x512, .bf16⟩
  | .hbm, ⟨9, _⟩ => ⟨S1024x1024, .f32⟩
  | .hbm, ⟨10, _⟩ => ⟨S33280x512, .f32⟩
  | .hbm, ⟨11, _⟩ => ⟨S33280x512, .f32⟩
  | .hbm, ⟨12, _⟩ => ⟨S33280x1024, .f32⟩
  | .hbm, ⟨13, _⟩ => ⟨S33280x1024, .f32⟩
  | .hbm, ⟨14, _⟩ => ⟨S33280x1024, .f32⟩
  | .hbm, ⟨15, _⟩ => ⟨S_, .f32⟩
  | .hbm, ⟨16, _⟩ => ⟨S33280, .f32⟩
  | .hbm, ⟨17, _⟩ => ⟨S33280x1, .f32⟩
  | .hbm, ⟨18, _⟩ => ⟨S_, .f32⟩
  | .hbm, ⟨19, _⟩ => ⟨S33280x1, .f32⟩
  | .hbm, ⟨20, _⟩ => ⟨S33280x1, .f32⟩
  | .hbm, ⟨21, _⟩ => ⟨S_, .f32⟩
  | .hbm, ⟨22, _⟩ => ⟨S33280x1, .f32⟩
  | .hbm, ⟨23, _⟩ => ⟨S33280x1, .f32⟩
  | .hbm, ⟨24, _⟩ => ⟨S33280x1, .f32⟩
  | .hbm, ⟨25, _⟩ => ⟨S33280x1024, .f32⟩
  | .hbm, ⟨26, _⟩ => ⟨S33280x1024, .f32⟩
  | .hbm, ⟨27, _⟩ => ⟨S1x1024, .f32⟩
  | .hbm, ⟨28, _⟩ => ⟨S33280x1024, .f32⟩
  | .hbm, ⟨29, _⟩ => ⟨S33280x1024, .f32⟩
  | .hbm, ⟨30, _⟩ => ⟨S33280x1024, .f32⟩
  | .hbm, ⟨31, _⟩ => ⟨S33280x1024, .f32⟩
  | .hbm, ⟨32, _⟩ => ⟨S_, .f32⟩
  | .hbm, ⟨33, _⟩ => ⟨S33280, .f32⟩
  | .hbm, ⟨34, _⟩ => ⟨S33280x1, .f32⟩
  | .hbm, ⟨35, _⟩ => ⟨S_, .f32⟩
  | .hbm, ⟨36, _⟩ => ⟨S33280x1, .f32⟩
  | .hbm, ⟨37, _⟩ => ⟨S33280x1, .f32⟩
  | .hbm, ⟨38, _⟩ => ⟨S_, .f32⟩
  | .hbm, ⟨39, _⟩ => ⟨S33280x1, .f32⟩
  | .hbm, ⟨40, _⟩ => ⟨S33280x1, .f32⟩
  | .hbm, ⟨41, _⟩ => ⟨S33280x1, .f32⟩
  | .hbm, ⟨42, _⟩ => ⟨S33280x1024, .f32⟩
  | .hbm, ⟨43, _⟩ => ⟨S33280x1024, .f32⟩
  | .hbm, ⟨44, _⟩ => ⟨S1x1024, .f32⟩
  | .hbm, ⟨45, _⟩ => ⟨S33280x1024, .f32⟩
  | .hbm, ⟨46, _⟩ => ⟨S33280x1024, .f32⟩
  | .hbm, ⟨47, _⟩ => ⟨S33280x2816, .f32⟩
  | .hbm, ⟨48, _⟩ => ⟨S33280x2816, .f32⟩
  | .hbm, ⟨49, _⟩ => ⟨S33280x2816, .f32⟩
  | .hbm, ⟨50, _⟩ => ⟨S_, .f32⟩
  | .hbm, ⟨51, _⟩ => ⟨S33280x2816, .f32⟩
  | .hbm, ⟨52, _⟩ => ⟨S33280x2816, .f32⟩
  | .hbm, ⟨53, _⟩ => ⟨S_, .f32⟩
  | .hbm, ⟨54, _⟩ => ⟨S33280x2816, .f32⟩
  | .hbm, ⟨55, _⟩ => ⟨S33280x2816, .f32⟩
  | .hbm, ⟨56, _⟩ => ⟨S33280x2816, .f32⟩
  | .hbm, ⟨57, _⟩ => ⟨S33280x2816, .f32⟩
  | .hbm, ⟨58, _⟩ => ⟨S33280x2816, .f32⟩
  | .hbm, ⟨59, _⟩ => ⟨S33280x1024, .f32⟩
  | .hbm, ⟨60, _⟩ => ⟨S33280x1024, .f32⟩
  | .hbm, ⟨61, _⟩ => ⟨S_, .f32⟩
  | .hbm, ⟨62, _⟩ => ⟨S33280, .f32⟩
  | .hbm, ⟨63, _⟩ => ⟨S33280x1, .f32⟩
  | .hbm, ⟨64, _⟩ => ⟨S_, .f32⟩
  | .hbm, ⟨65, _⟩ => ⟨S33280x1, .f32⟩
  | .hbm, ⟨66, _⟩ => ⟨S33280x1, .f32⟩
  | .hbm, ⟨67, _⟩ => ⟨S_, .f32⟩
  | .hbm, ⟨68, _⟩ => ⟨S33280x1, .f32⟩
  | .hbm, ⟨69, _⟩ => ⟨S33280x1, .f32⟩
  | .hbm, ⟨70, _⟩ => ⟨S33280x1, .f32⟩
  | .hbm, ⟨71, _⟩ => ⟨S33280x1024, .f32⟩
  | .hbm, ⟨72, _⟩ => ⟨S33280x1024, .f32⟩
  | .hbm, ⟨73, _⟩ => ⟨S1x1024, .f32⟩
  | .hbm, ⟨74, _⟩ => ⟨S33280x1024, .f32⟩
  | .hbm, ⟨75, _⟩ => ⟨S33280x1024, .f32⟩
  | .hbm, ⟨76, _⟩ => ⟨S_, .f32⟩
  | .hbm, ⟨77, _⟩ => ⟨S33280x1024, .f32⟩
  | .hbm, ⟨78, _⟩ => ⟨S33280x1024, .f32⟩
  | .hbm, ⟨79, _⟩ => ⟨S33280x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_5 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_8 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩

abbrev nD : Nat := 1
abbrev τ : Topo := Topo.v7x

variable {F : FTy → Type} [FloatOps F]
-- ==== KernelOdd.lean ====
abbrev S33280x1024 : Shape := ⟨2, ![33280, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S640x1024 : Shape := ⟨2, ![640, 1024]⟩
abbrev S640x2816 : Shape := ⟨2, ![640, 2816]⟩
abbrev S640 : Shape := ⟨1, ![640]⟩
abbrev S640x1 : Shape := ⟨2, ![640, 1]⟩
abbrev S1024x256 : Shape := ⟨2, ![1024, 256]⟩
abbrev S640x256 : Shape := ⟨2, ![640, 256]⟩

abbrev nBuf : Space → Nat
  | .hbm => 12
  | .vmem => 11
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S33280x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S640x1024, .f32⟩
  | .local _ .vmem, ⟨8, _⟩ => ⟨S640x1024, .f32⟩
  | .local _ .vmem, ⟨9, _⟩ => ⟨S640x1024, .bf16⟩
  | .local _ .vmem, ⟨10, _⟩ => ⟨S640x2816, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceOddIdeal.lean ====
abbrev S33280x1024 : Shape := ⟨2, ![33280, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S33280 : Shape := ⟨1, ![33280]⟩
abbrev S33280x1 : Shape := ⟨2, ![33280, 1]⟩
abbrev S1x1024 : Shape := ⟨2, ![1, 1024]⟩
abbrev S33280x2816 : Shape := ⟨2, ![33280, 2816]⟩

abbrev nBuf : Space → Nat
  | .hbm => 55
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S33280x1024, .f32⟩
  | .hbm, ⟨7, _⟩ => ⟨S_, .f32⟩
  | .hbm, ⟨8, _⟩ => ⟨S33280, .f32⟩
  | .hbm, ⟨9, _⟩ => ⟨S33280x1, .f32⟩
  | .hbm, ⟨10, _⟩ => ⟨S_, .f32⟩
  | .hbm, ⟨11, _⟩ => ⟨S33280x1, .f32⟩
  | .hbm, ⟨12, _⟩ => ⟨S33280x1, .f32⟩
  | .hbm, ⟨13, _⟩ => ⟨S_, .f32⟩
  | .hbm, ⟨14, _⟩ => ⟨S33280x1, .f32⟩
  | .hbm, ⟨15, _⟩ => ⟨S33280x1, .f32⟩
  | .hbm, ⟨16, _⟩ => ⟨S33280x1, .f32⟩
  | .hbm, ⟨17, _⟩ => ⟨S33280x1024, .f32⟩
  | .hbm, ⟨18, _⟩ => ⟨S33280x1024, .f32⟩
  | .hbm, ⟨19, _⟩ => ⟨S1x1024, .f32⟩
  | .hbm, ⟨20, _⟩ => ⟨S33280x1024, .f32⟩
  | .hbm, ⟨21, _⟩ => ⟨S33280x1024, .f32⟩
  | .hbm, ⟨22, _⟩ => ⟨S33280x2816, .f32⟩
  | .hbm, ⟨23, _⟩ => ⟨S33280x2816, .f32⟩
  | .hbm, ⟨24, _⟩ => ⟨S33280x2816, .f32⟩
  | .hbm, ⟨25, _⟩ => ⟨S_, .f32⟩
  | .hbm, ⟨26, _⟩ => ⟨S33280x2816, .f32⟩
  | .hbm, ⟨27, _⟩ => ⟨S33280x2816, .f32⟩
  | .hbm, ⟨28, _⟩ => ⟨S_, .f32⟩
  | .hbm, ⟨29, _⟩ => ⟨S33280x2816, .f32⟩
  | .hbm, ⟨30, _⟩ => ⟨S33280x2816, .f32⟩
  | .hbm, ⟨31, _⟩ => ⟨S33280x2816, .f32⟩
  | .hbm, ⟨32, _⟩ => ⟨S33280x2816, .f32⟩
  | .hbm, ⟨33, _⟩ => ⟨S33280x2816, .f32⟩
  | .hbm, ⟨34, _⟩ => ⟨S33280x1024, .f32⟩
  | .hbm, ⟨35, _⟩ => ⟨S33280x1024, .f32⟩
  | .hbm, ⟨36, _⟩ => ⟨S_, .f32⟩
  | .hbm, ⟨37, _⟩ => ⟨S33280, .f32⟩
  | .hbm, ⟨38, _⟩ => ⟨S33280x1, .f32⟩
  | .hbm, ⟨39, _⟩ => ⟨S_, .f32⟩
  | .hbm, ⟨40, _⟩ => ⟨S33280x1, .f32⟩
  | .hbm, ⟨41, _⟩ => ⟨S33280x1, .f32⟩
  | .hbm, ⟨42, _⟩ => ⟨S_, .f32⟩
  | .hbm, ⟨43, _⟩ => ⟨S33280x1, .f32⟩
  | .hbm, ⟨44, _⟩ => ⟨S33280x1, .f32⟩
  | .hbm, ⟨45, _⟩ => ⟨S33280x1, .f32⟩
  | .hbm, ⟨46, _⟩ => ⟨S33280x1024, .f32⟩
  | .hbm, ⟨47, _⟩ => ⟨S33280x1024, .f32⟩
  | .hbm, ⟨48, _⟩ => ⟨S1x1024, .f32⟩
  | .hbm, ⟨49, _⟩ => ⟨S33280x1024, .f32⟩
  | .hbm, ⟨50, _⟩ => ⟨S33280x1024, .f32⟩
  | .hbm, ⟨51, _⟩ => ⟨S_, .f32⟩
  | .hbm, ⟨52, _⟩ => ⟨S33280x1024, .f32⟩
  | .hbm, ⟨53, _⟩ => ⟨S33280x1024, .f32⟩
  | .hbm, ⟨54, _⟩ => ⟨S33280x1024, .f32⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== KernelFirst.lean ====
abbrev S4x8192x1024 : Shape := ⟨3, ![4, 8192, 1024]⟩
abbrev S16x1024 : Shape := ⟨2, ![16, 1024]⟩
abbrev S1024 : Shape := ⟨1, ![1024]⟩
abbrev S1024x2816 : Shape := ⟨2, ![1024, 2816]⟩
abbrev S2816x1024 : Shape := ⟨2, ![2816, 1024]⟩
abbrev S1x16x1024 : Shape := ⟨3, ![1, 16, 1024]⟩
abbrev S4x16x1024 : Shape := ⟨3, ![4, 16, 1024]⟩
abbrev S_ : Shape := ⟨0, ![]⟩
abbrev S4x112x1024 : Shape := ⟨3, ![4, 112, 1024]⟩
abbrev S4x512x1024 : Shape := ⟨3, ![4, 512, 1024]⟩
abbrev S4x640x1024 : Shape := ⟨3, ![4, 640, 1024]⟩
abbrev S32768x1024 : Shape := ⟨2, ![32768, 1024]⟩
abbrev S2560x1024 : Shape := ⟨2, ![2560, 1024]⟩
abbrev S1x1024 : Shape := ⟨2, ![1, 1024]⟩
abbrev S33280x1024 : Shape := ⟨2, ![33280, 1024]⟩
abbrev S640x1024 : Shape := ⟨2, ![640, 1024]⟩
abbrev S640x2816 : Shape := ⟨2, ![640, 2816]⟩
abbrev S640 : Shape := ⟨1, ![640]⟩
abbrev S640x1 : Shape := ⟨2, ![640, 1]⟩
abbrev S1024x256 : Shape := ⟨2, ![1024, 256]⟩
abbrev S640x256 : Shape := ⟨2, ![640, 256]⟩

abbrev nBuf : Space → Nat
  | .hbm => 21
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1x16x1024, .f32⟩
  | .hbm, ⟨8, _⟩ => ⟨S4x16x1024, .f32⟩
  | .hbm, ⟨9, _⟩ => ⟨S_, .f32⟩
  | .hbm, ⟨10, _⟩ => ⟨S4x112x1024, .f32⟩
  | .hbm, ⟨11, _⟩ => ⟨S4x512x1024, .f32⟩
  | .hbm, ⟨12, _⟩ => ⟨S4x640x1024, .f32⟩
  | .hbm, ⟨13, _⟩ => ⟨S32768x1024, .f32⟩
  | .hbm, ⟨14, _⟩ => ⟨S2560x1024, .f32⟩
  | .hbm, ⟨15, _⟩ => ⟨S1x1024, .f32⟩
  | .hbm, ⟨16, _⟩ => ⟨S1x1024, .f32⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S33280x1024, .f32⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S640x1024, .f32⟩
  | .local _ .vmem, ⟨8, _⟩ => ⟨S640x1024, .f32⟩
  | .local _ .vmem, ⟨9, _⟩ => ⟨S640x1024, .f32⟩
  | .local _ .vmem, ⟨10, _⟩ => ⟨S640x1024, .f32⟩
  | .local _ .vmem, ⟨11, _⟩ => ⟨S640x1024, .bf16⟩
  | .local _ .vmem, ⟨12, _⟩ => ⟨S640x2816, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli v16 c64_i32
  let c13_i32_4 : BitVec 32 := 13#32
  let c0_i32_5 : BitVec 32 := 0#32
  let v18 : BitVec 1 := Scalar.cmpi .eq c13_i32_4 c0_i32_5
  let c1_i32_6 : BitVec 32 := 1#32
  let v19 : BitVec 32 := Scalar.select v18 c1_i32_6 c13_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c5_i32 : BitVec 32 := 5#32
  let v28 : BitVec 32 := Scalar.muli v27 c5_i32
  let c1_i32_10 : BitVec 32 := 1#32
  let v29 : BitVec 32 := Scalar.subi v28 c1_i32_10
  let c0_i32_11 : BitVec 32 := 0#32
  let v30 : BitVec 32 := Scalar.maxsi v29 c0_i32_11
  let v31 : BitVec 32 := Scalar.addi v17 v30
  let c128_i32 : BitVec 32 := 128#32
  let v32 : BitVec 32 := Scalar.muli c128_i32 v31
  let c0_i32_12 : BitVec 32 := 0#32
  let c0_i32_13 : BitVec 32 := 0#32
  ![v32.toNat, c0_i32_12.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c13_i32 : BitVec 32 := 13#32
  let v0 : BitVec 32 := Scalar.divsi arg0 c13_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c13_i32 c0_i32_1
  let v7 : BitVec 32 := Scalar.extui v6
  let c0_i32_2 : BitVec 32 := 0#32
  let v8 : BitVec 1 := Scalar.cmpi .slt c13_i32 c0_i32_2
  let v9 : BitVec 32 := Scalar.extui v8
  let v10 : BitVec 32 := Scalar.subi v7 v9
  let v11 : BitVec 1 := Scalar.cmpi .ne v5 v10
  let v12 : BitVec 32 := Scalar.remsi arg0 c13_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S640x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S640x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceFirstIdeal.lean ====
abbrev S4x8192x1024 : Shape := ⟨3, ![4, 8192, 1024]⟩
abbrev S16x1024 : Shape := ⟨2, ![16, 1024]⟩
abbrev S1024 : Shape := ⟨1, ![1024]⟩
abbrev S1024x2816 : Shape := ⟨2, ![1024, 2816]⟩
abbrev S2816x1024 : Shape := ⟨2, ![2816, 1024]⟩
abbrev S1x16x1024 : Shape := ⟨3, ![1, 16, 1024]⟩
abbrev S4x16x1024 : Shape := ⟨3, ![4, 16, 1024]⟩
abbrev S4x8208x1024 : Shape := ⟨3, ![4, 8208, 1024]⟩
abbrev S_ : Shape := ⟨0, ![]⟩
abbrev S4x8320x1024 : Shape := ⟨3, ![4, 8320, 1024]⟩
abbrev S4x8320 : Shape := ⟨2, ![4, 8320]⟩
abbrev S4x8320x1 : Shape := ⟨3, ![4, 8320, 1]⟩
abbrev S1x1x1024 : Shape := ⟨3, ![1, 1, 1024]⟩
abbrev S4x8320x2816 : Shape := ⟨3, ![4, 8320, 2816]⟩
abbrev S33280x1024 : Shape := ⟨2, ![33280, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S16x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1x16x1024, .f32⟩
  | .hbm, ⟨8, _⟩ => ⟨S4x16x1024, .f32⟩
  | .hbm, ⟨9, _⟩ => ⟨S4x8208x1024, .f32⟩
  | .hbm, ⟨10, _⟩ => ⟨S_, .i32⟩
  | .hbm, ⟨11, _⟩ => ⟨S_, .f32⟩
  | .hbm, ⟨12, _⟩ => ⟨S4x8320x1024, .f32⟩
  | .hbm, ⟨13, _⟩ => ⟨S4x8320x1024, .f32⟩
  | .hbm, ⟨14, _⟩ => ⟨S_, .f32⟩
  | .hbm, ⟨15, _⟩ => ⟨S4x8320, .f32⟩
  | .hbm, ⟨16, _⟩ => ⟨S4x8320x1, .f32⟩
  | .hbm, ⟨17, _⟩ => ⟨S_, .f32⟩
  | .hbm, ⟨18, _⟩ => ⟨S4x8320x1, .f32⟩
  | .hbm, ⟨19, _⟩ => ⟨S4x8320x1, .f32⟩
  | .hbm, ⟨20, _⟩ => ⟨S_, .f32⟩
  | .hbm, ⟨21, _⟩ => ⟨S4x8320x1, .f32⟩
  | .hbm, ⟨22, _⟩ => ⟨S4x8320x1, .f32⟩
  | .hbm, ⟨23, _⟩ => ⟨S4x8320x1, .f32⟩
  | .hbm, ⟨24, _⟩ => ⟨S4x8320x1024, .f32⟩
  | .hbm, ⟨25, _⟩ => ⟨S4x8320x1024, .f32⟩
  | .hbm, ⟨26, _⟩ => ⟨S1x1x1024, .f32⟩
  | .hbm, ⟨27, _⟩ => ⟨S4x8320x1024, .f32⟩
  | .hbm, ⟨28, _⟩ => ⟨S4x8320x1024, .f32⟩
  | .hbm, ⟨29, _⟩ => ⟨S4x8320x2816, .f32⟩
  | .hbm, ⟨30, _⟩ => ⟨S4x8320x2816, .f32⟩
  | .hbm, ⟨31, _⟩ => ⟨S4x8320x2816, .f32⟩
  | .hbm, ⟨32, _⟩ => ⟨S_, .f32⟩
  | .hbm, ⟨33, _⟩ => ⟨S4x8320x2816, .f32⟩
  | .hbm, ⟨34, _⟩ => ⟨S4x8320x2816, .f32⟩
  | .hbm, ⟨35, _⟩ => ⟨S_, .f32⟩
  | .hbm, ⟨36, _⟩ => ⟨S4x8320x2816, .f32⟩
  | .hbm, ⟨37, _⟩ => ⟨S4x8320x2816, .f32⟩
  | .hbm, ⟨38, _⟩ => ⟨S4x8320x2816, .f32⟩
  | .hbm, ⟨39, _⟩ => ⟨S4x8320x2816, .f32⟩
  | .hbm, ⟨40, _⟩ => ⟨S4x8320x2816, .f32⟩
  | .hbm, ⟨41, _⟩ => ⟨S4x8320x1024, .f32⟩
  | .hbm, ⟨42, _⟩ => ⟨S4x8320x1024, .f32⟩
  | .hbm, ⟨43, _⟩ => ⟨S_, .f32⟩
  | .hbm, ⟨44, _⟩ => ⟨S4x8320, .f32⟩
  | .hbm, ⟨45, _⟩ => ⟨S4x8320x1, .f32⟩
  | .hbm, ⟨46, _⟩ => ⟨S_, .f32⟩
  | .hbm, ⟨47, _⟩ => ⟨S4x8320x1, .f32⟩
  | .hbm, ⟨48, _⟩ => ⟨S4x8320x1, .f32⟩
  | .hbm, ⟨49, _⟩ => ⟨S_, .f32⟩
  | .hbm, ⟨50, _⟩ => ⟨S4x8320x1, .f32⟩
  | .hbm, ⟨51, _⟩ => ⟨S4x8320x1, .f32⟩
  | .hbm, ⟨52, _⟩ => ⟨S4x8320x1, .f32⟩
  | .hbm, ⟨53, _⟩ => ⟨S4x8320x1024, .f32⟩
  | .hbm, ⟨54, _⟩ => ⟨S4x8320x1024, .f32⟩
  | .hbm, ⟨55, _⟩ => ⟨S1x1x1024, .f32⟩
  | .hbm, ⟨56, _⟩ => ⟨S4x8320x1024, .f32⟩
  | .hbm, ⟨57, _⟩ => ⟨S4x8320x1024, .f32⟩
  | .hbm, ⟨58, _⟩ => ⟨S_, .f32⟩
  | .hbm, ⟨59, _⟩ => ⟨S4x8320x1024, .f32⟩
  | .hbm, ⟨60, _⟩ => ⟨S4x8320x1024, .f32⟩
  | .hbm, ⟨61, _⟩ => ⟨S4x8320x1024, .f32⟩
  | .hbm, ⟨62, _⟩ => ⟨S33280x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩

abbrev nD : Nat := 1
abbrev τ : Topo := Topo.v7x

variable {F : FTy → Type} [FloatOps F]
-- ==== KernelProj.lean ====
abbrev S33280x1024 : Shape := ⟨2, ![33280, 1024]⟩
abbrev S1024 : Shape := ⟨1, ![1024]⟩
abbrev S1024x2304 : Shape := ⟨2, ![1024, 2304]⟩
abbrev S1024x512 : Shape := ⟨2, ![1024, 512]⟩
abbrev S1024x2x4x64 : Shape := ⟨4, ![1024, 2, 4, 64]⟩
abbrev S1024x4x2x64 : Shape := ⟨4, ![1024, 4, 2, 64]⟩
abbrev S1024x1792 : Shape := ⟨2, ![1024, 1792]⟩
abbrev S1x1024 : Shape := ⟨2, ![1, 1024]⟩
abbrev S33280x2304 : Shape := ⟨2, ![33280, 2304]⟩
abbrev S640x1024 : Shape := ⟨2, ![640, 1024]⟩
abbrev S640x2304 : Shape := ⟨2, ![640, 2304]⟩
abbrev S640 : Shape := ⟨1, ![640]⟩
abbrev S640x1 : Shape := ⟨2, ![640, 1]⟩
abbrev S1024x256 : Shape := ⟨2, ![1024, 256]⟩
abbrev S640x256 : Shape := ⟨2, ![640, 256]⟩

abbrev nBuf : Space → Nat
  | .hbm => 12
  | .vmem => 6
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024x2304, .f32⟩
  | .hbm, ⟨3, _⟩ => ⟨S1024x2304, .bf16⟩
  | .hbm, ⟨4, _⟩ => ⟨S1024x512, .bf16⟩
  | .hbm, ⟨5, _⟩ => ⟨S1024x2x4x64, .bf16⟩
  | .hbm, ⟨6, _⟩ => ⟨S1024x4x2x64, .bf16⟩
  | .hbm, ⟨7, _⟩ => ⟨S1024x512, .bf16⟩
  | .hbm, ⟨8, _⟩ => ⟨S1024x1792, .bf16⟩
  | .hbm, ⟨9, _⟩ => ⟨S1024x2304, .bf16⟩
  | .hbm, ⟨10, _⟩ => ⟨S1x1024, .f32⟩
  | .hbm, ⟨11, _⟩ => ⟨S33280x2304, .bf16⟩
  | .local _ .vmem, ⟨0, _⟩ => ⟨S640x1024, .f32⟩
  | .local _ .vmem, ⟨1, _⟩ => ⟨S640x1024, .f32⟩
  | .local _ .vmem, ⟨2, _⟩ => ⟨S1x1024, .f32⟩
  | .local _ .vmem, ⟨3, _⟩ => ⟨S1024x2304, .bf16⟩
  | .local _ .vmem, ⟨4, _⟩ => ⟨S640x2304, .bf16⟩
  | .local _ .vmem, ⟨5, _⟩ => ⟨S640x2304, .bf16⟩
  | _, _ => ⟨S33280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S640x2304 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceProjIdeal.lean ====
abbrev S33280x1024 : Shape := ⟨2, ![33280, 1024]⟩
abbrev S1024 : Shape := ⟨1, ![1024]⟩
abbrev S1024x2304 : Shape := ⟨2, ![1024, 2304]⟩
abbrev S_ : Shape := ⟨0, ![]⟩
abbrev S33280 : Shape := ⟨1, ![33280]⟩
abbrev S33280x1 : Shape := ⟨2, ![33280, 1]⟩
abbrev S1x1024 : Shape := ⟨2, ![1, 1024]⟩
abbrev S33280x2304 : Shape := ⟨2, ![33280, 2304]⟩
abbrev S33280x512 : Shape := ⟨2, ![33280, 512]⟩
abbrev S33280x2x4x64 : Shape := ⟨4, ![33280, 2, 4, 64]⟩
abbrev S33280x4x2x64 : Shape := ⟨4, ![33280, 4, 2, 64]⟩
abbrev S33280x1792 : Shape := ⟨2, ![33280, 1792]⟩

abbrev nBuf : Space → Nat
  | .hbm => 27
  | .vmem => 0
  | .smem => 0
  | _ => 0

abbrev bufTy : (tb : Table) → Fin (tcTables nBuf tb) → BufTy
  | .hbm, ⟨0, _⟩ => ⟨S33280x1024, .f32⟩
  | .hbm, ⟨1, _⟩ => ⟨S1024, .f32⟩
  | .hbm, ⟨2, _⟩ => ⟨S1024x2304, .f32⟩
  | .hbm, ⟨3, _⟩ => ⟨S33280x1024, .f32⟩
  | .hbm, ⟨4, _⟩ => ⟨S_, .f32⟩
  | .hbm, ⟨5, _⟩ => ⟨S33280, .f32⟩
  | .hbm, ⟨6, _⟩ => ⟨S33280x1, .f32⟩
  | .hbm, ⟨7, _⟩ => ⟨S_, .f32⟩
  | .hbm, ⟨8, _⟩ => ⟨S33280x1, .f32⟩
  | .hbm, ⟨9, _⟩ => ⟨S33280x1, .f32⟩
  | .hbm, ⟨10, _⟩ => ⟨S_, .f32⟩
  | .hbm, ⟨11, _⟩ => ⟨S33280x1, .f32⟩
  | .hbm, ⟨12, _⟩ => ⟨S33280x1, .f32⟩
  | .hbm, ⟨13, _⟩ => ⟨S33280x1, .f32⟩
  | .hbm, ⟨14, _⟩ => ⟨S33280x1024, .f32⟩
  | .hbm, ⟨15, _⟩ => ⟨S33280x1024, .f32⟩
  | .hbm, ⟨16, _⟩ => ⟨S1x1024, .f32⟩
  | .hbm, ⟨17, _⟩ => ⟨S33280x1024, .f32⟩
  | .hbm, ⟨18, _⟩ => ⟨S33280x1024, .f32⟩
  | .hbm, ⟨19, _⟩ => ⟨S33280x2304, .f32⟩
  | .hbm, ⟨20, _⟩ => ⟨S33280x512, .f32⟩
  | .hbm, ⟨21, _⟩ => ⟨S33280x2x4x64, .f32⟩
  | .hbm, ⟨22, _⟩ => ⟨S33280x4x2x64, .f32⟩
  | .hbm, ⟨23, _⟩ => ⟨S33280x512, .f32⟩
  | .hbm, ⟨24, _⟩ => ⟨S33280x1792, .f32⟩
  | .hbm, ⟨25, _⟩ => ⟨S33280x2304, .f32⟩
  | .hbm, ⟨26, _⟩ => ⟨S33280x2304, .bf16⟩
  | _, _ => ⟨S33280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.FfnSpec.lean ====
module

public import Idealize.ShloMosaic.Lib.Pointwise

@[expose] public section

noncomputable section

namespace Cert.FfnSpec

open Idealize.ShloMosaic Idealize.SL.Sem

/-- The root-mean-square normalisation of a row `z`, scaled by the gain `g`. -/
def rms (z g : Fin 1024 → EReal) (j : Fin 1024) : EReal :=
  z j * Ideal.rsqrt (Ideal.div (∑ k : Fin 1024, z k * z k) (Ideal.ofBits .f32 0x44800000#32)
    + Ideal.ofBits .f32 0x358637BD#32) * g j

/-- The output projection of the two mixers' rows `a`, `b` by the upper and the lower half of `w`. -/
def mix (a b : Fin 512 → EReal) (wa wb : Fin 512 → Fin 1024 → EReal) (j : Fin 1024) : EReal :=
  (∑ k : Fin 512, a k * wa k j) + ∑ k : Fin 512, b k * wb k j

/-- The residual row after the mixers. -/
def resid (h z g : Fin 1024 → EReal) (j : Fin 1024) : EReal := h j + rms z g j

/-- The gated hidden unit `f` of the normalised row `u`. -/
def act (u : Fin 1024 → EReal) (wg wu : Fin 1024 → EReal) : EReal :=
  (∑ k : Fin 1024, u k * wg k) * Ideal.logistic (∑ k : Fin 1024, u k * wg k) * ∑ k : Fin 1024, u k * wu k

/-- The down projection of the hidden row `p`. -/
def down (p : Fin 2816 → EReal) (wd : Fin 2816 → Fin 1024 → EReal) (j : Fin 1024) : EReal :=
  ∑ f : Fin 2816, p f * wd f j

/-- The closing residual: `x` plus half the normalised row `y`. -/
def close (x y g : Fin 1024 → EReal) (j : Fin 1024) : EReal :=
  x j + Ideal.ofBits .f32 0x3F000000#32 * rms y g j

/-- One row of the feed-forward block with the mixers' projection in front of it. -/
def row (h : Fin 1024 → EReal) (a b : Fin 512 → EReal) (gm gp go : Fin 1024 → EReal)
    (wg wu : Fin 1024 → Fin 2816 → EReal) (wd : Fin 2816 → Fin 1024 → EReal)
    (wa wb : Fin 512 → Fin 1024 → EReal) (j : Fin 1024) : EReal :=
  close (resid h (mix a b wa wb) gm)
    (down (fun f => act (rms (resid h (mix a b wa wb) gm) gp) (fun k => wg k f) (fun k => wu k f)) wd) go j

/-- One row of the feed-forward block without a projection in front of it. -/
def plain (h gp go : Fin 1024 → EReal) (wg wu : Fin 1024 → Fin 2816 → EReal) (wd : Fin 2816 → Fin 1024 → EReal)
    (j : Fin 1024) : EReal :=
  close h (down (fun f => act (rms h gp) (fun k => wg k f) (fun k => wu k f)) wd) go j

end Cert.FfnSpec

end
-- ==== Proof.FfnKernel.lean ====
module

public import proofs.«01_k».proof.Proof.Gen.KernelFfnIdeal.Skeleton
public import proofs.«01_k».proof.Proof.FfnSpec

@[expose] public section

set_option maxRecDepth 16384

noncomputable section

namespace Cert.FfnKernel

open Cert.KernelFfnIdeal Cert.KernelFfnIdeal.Gen
open Idealize.ShloMosaic Idealize.ShloMosaic.TcCoe Idealize.SL.Sem Cert.FfnSpec

variable (x0 : FVec Ideal S512x1024 .f32) (x1 x2 x8 : FVec Ideal S1x1024 .f32)
  (x3 x4 : FVec Ideal S1024x2816 .bf16) (x5 : FVec Ideal S2816x1024 .bf16)
  (x6 x7 : FVec Ideal S512x512 .bf16) (x9 x10 : FVec Ideal S512x1024 .bf16)

/-- The tile's residual row after the mixers. -/
theorem resid_at (r : Fin 512) (j : Fin 1024) :
    k0_pay2 (F := Ideal) x0 x6 x9 x7 x10 x8 (ix2 r j)
      = resid (fun k => x0 (ix2 r k)) (mix (fun k => x6 (ix2 r k)) (fun k => x7 (ix2 r k))
          (fun k j => x9 (ix2 k j)) (fun k j => x10 (ix2 k j))) (fun k => x8 (ix2 0 k)) j := by
  pointwise [k0_pay2, resid, rms, mix]

/-- The tile's normalised row in front of the gate. -/
theorem pre_at (v : FVec Ideal S512x1024 .f32) (h : v = k0_pay2 (F := Ideal) x0 x6 x9 x7 x10 x8) (r : Fin 512) (j : Fin 1024) :
    k0_pay5 (F := Ideal) v (k0_pay3 x1) (k0_pay4 (F := Ideal) x0 x6 x9 x7 x10 x8) (ix2 r j)
      = rms (fun k => v (ix2 r k)) (fun k => x1 (ix2 0 k)) j := by
  subst h
  generalize hv : k0_pay2 (F := Ideal) x0 x6 x9 x7 x10 x8 = v
  pointwise [k0_pay5, k0_pay3, k0_pay4, hv, rms]

/-- One column chunk of the tile's gated hidden units. -/
theorem act_at (u : FVec Ideal S512x1024 .bf16) (g w : FVec Ideal S1024x256 .bf16) (r : Fin 512) (f : Fin 256) :
    k0_pay6 (F := Ideal) u g w (ix2 r f) = act (fun k => u (ix2 r k)) (fun k => g (ix2 k f)) (fun k => w (ix2 k f)) := by
  pointwise [k0_pay6, act]

/-- The tile's result from its residual rows and its hidden units. -/
theorem close_at (x : FVec Ideal S512x1024 .f32) (p : FVec Ideal S512x2816 .bf16) (r : Fin 512) (j : Fin 1024) :
    k0_pay1 (F := Ideal) x (k0_pay19 p x5) (k0_pay20 x2) (k0_pay21 p x5) (ix2 r j)
      = close (fun k => x (ix2 r k)) (down (fun f => p (ix2 r f)) (fun f k => x5 (ix2 f k))) (fun k => x2 (ix2 0 k)) j := by
  pointwise [k0_pay1, k0_pay19, k0_pay20, k0_pay21, close, down, rms]

end Cert.FfnKernel

end
-- ==== Proof.FfnOut.lean ====
module

public import proofs.«01_k».proof.Proof.Gen.KernelFfnIdeal.Value
public import proofs.«01_k».proof.Proof.FfnKernel
public import Idealize.ShloMosaic.Lib.Pipeline.ValueKit

@[expose] public section

set_option maxRecDepth 16384

noncomputable section

namespace Cert.FfnOut

open Cert.KernelFfnIdeal Cert.KernelFfnIdeal.Gen
open Idealize.ShloMosaic Idealize.ShloMosaic.TcCoe Idealize.SL.Sem
open Idealize.ShloMosaic.Pipeline (Dat)

variable (m : (ℓ : Loc nD τ sig) → Buf (Elt Ideal) ℓ)

/-- Entry `(a, b)` of the tile of columns from `o` is entry `(a, o + b)` of the hidden block. -/
theorem emb_cols (o : ℕ) (h : o + 256 ≤ 2816) (hin : _) (a : Fin 512) (b : Fin 256) :
    (Rect.unit (s := S512x2816) ![0, o] ![512, 256] hin).emb (ix2 a b) = ix2 a ⟨o + b.val, by omega⟩ := by
  funext i
  fin_cases i
  · apply Fin.ext; show 0 + 1 * a.val = a.val; omega
  · apply Fin.ext; show o + 1 * b.val = o + b.val; omega

/-- What the body leaves in the output's block, row by row: the row function of the block's rows. -/
theorem out_at (c : Dev nD) (t : Fin cfg0.N) (r : Fin 512) (j : Fin 1024) :
    outsAt0 m c t (ix2 r j)
      = FfnSpec.row (fun k => (iblk m c 0 t : FVec Ideal S512x1024 .f32) (ix2 r k))
          (fun k => (iblk m c 6 t : FVec Ideal S512x512 .bf16) (ix2 r k)) (fun k => (iblk m c 7 t : FVec Ideal S512x512 .bf16) (ix2 r k))
          (fun k => (iblk m c 8 t : FVec Ideal S1x1024 .f32) (ix2 0 k)) (fun k => (iblk m c 1 t : FVec Ideal S1x1024 .f32) (ix2 0 k))
          (fun k => (iblk m c 2 t : FVec Ideal S1x1024 .f32) (ix2 0 k))
          (fun k f => (iblk m c 3 t : FVec Ideal S1024x2816 .bf16) (ix2 k f)) (fun k f => (iblk m c 4 t : FVec Ideal S1024x2816 .bf16) (ix2 k f))
          (fun f k => (iblk m c 5 t : FVec Ideal S2816x1024 .bf16) (ix2 f k))
          (fun k j => (iblk m c 9 t : FVec Ideal S512x1024 .bf16) (ix2 k j)) (fun k j => (iblk m c 10 t : FVec Ideal S512x1024 .bf16) (ix2 k j)) j := by
  have hx := fun (r : Fin 512) (j : Fin 1024) => FfnKernel.resid_at (iblk m c 0 t) (iblk m c 8 t) (iblk m c 6 t) (iblk m c 7 t) (iblk m c 9 t) (iblk m c 10 t) r j
  have hz := fun (r : Fin 512) (j : Fin 1024) => FfnKernel.pre_at (iblk m c 0 t) (iblk m c 1 t) (iblk m c 8 t) (iblk m c 6 t) (iblk m c 7 t) (iblk m c 9 t) (iblk m c 10 t) _ rfl r j
  unfold outsAt0
  frame_out
  generalize k0_pay2 (F := Ideal) (iblk m c 0 t) (iblk m c 6 t) (iblk m c 9 t) (iblk m c 7 t) (iblk m c 10 t) (iblk m c 8 t) = v at *
  generalize k0_pay5 v (k0_pay3 (iblk m c 1 t)) (k0_pay4 (iblk m c 0 t) (iblk m c 6 t) (iblk m c 9 t) (iblk m c 7 t) (iblk m c 10 t) (iblk m c 8 t)) = u at *
  rw [View.readCov_eq_canon_ld]
  rotate_left
  · exact fun y => View.cover_of_tiledL _ (![512, 256] : Fin S512x2816.rank → ℕ) (by sl_kernel_rfl) y
  rw [View.ld_unit_zero (by funext a; fin_cases a <;> rfl), FfnKernel.close_at]
  unfold FfnSpec.row
  have hx' := funext (hx r)
  have hz' := funext (hz r)
  simp only [← hx']
  congr 2
  funext f
  refine (View.canon_apply_of_pieces (Val := Elt Ideal) (S := S512x2816) (e := .bf16) (fun y => FfnSpec.act (fun k => u (ix2 (y 0) k))
    (fun k => (iblk m c 3 t : FVec Ideal S1024x2816 .bf16) (ix2 k (y 1))) (fun k => (iblk m c 4 t : FVec Ideal S1024x2816 .bf16) (ix2 k (y 1)))) _ ?_ _
    ?_).trans ?_
  rotate_left
  · exact View.cover_of_tiledL _ (![512, 256] : Fin S512x2816.rank → ℕ) (by sl_kernel_rfl) _
  · rw [← hz']
    rfl
  clear hx hz hx' hz'
  repeat' (first | exact List.forall_mem_nil _ | refine List.forall_mem_cons.2 ⟨?_, ?_⟩)
  all_goals (intro (x : S512x256.Idx); idx_vars x)
  all_goals
    rw [emb_cols _ (by decide)]
    pointwise [k0_pay6, k0_pay7, k0_pay8, k0_pay9, k0_pay10, k0_pay11, k0_pay12, k0_pay13, k0_pay14, k0_pay15, k0_pay16, k0_pay17, k0_pay18, FfnSpec.act]

end Cert.FfnOut

end
-- ==== Proof.FfnHost.lean ====
module

public import proofs.«01_k».proof.Proof.Gen.KernelFfnIdeal.Frame
public import proofs.«01_k».proof.Proof.FfnSpec
public import Idealize.ShloMosaic.Lib.Pipeline.ValueKit

@[expose] public section

set_option maxRecDepth 16384

noncomputable section

namespace Cert.FfnHost

open Cert.KernelFfnIdeal Cert.KernelFfnIdeal.Gen
open Idealize.ShloMosaic Idealize.ShloMosaic.TcCoe Idealize.SL.Sem
open Idealize.ShloMosaic.Pipeline (Dat)

variable (m : (ℓ : Loc nD τ sig) → Buf (Elt Ideal) ℓ)

/-- The windows' index maps at every grid point. -/
theorem idx : ∀ t : Fin cfg0.N, win0_0.index t = ![(t.val / 16) * 8320 + 128 + (t.val % 16) * 512, 0] ∧ win0_1.index t = ![0, 0]
    ∧ win0_2.index t = ![0, 0] ∧ win0_3.index t = ![0, 0] ∧ win0_4.index t = ![0, 0] ∧ win0_5.index t = ![0, 0]
    ∧ win0_6.index t = ![(t.val / 16) * 8320 + 128 + (t.val % 16) * 512, 0]
    ∧ win0_7.index t = ![(t.val / 16) * 8320 + 128 + (t.val % 16) * 512, 0] ∧ win0_8.index t = ![0, 0] ∧ win0_9.index t = ![0, 0]
    ∧ win0_10.index t = ![0, 0] ∧ win0_11.index t = ![t.val, 0] ∧ t.val < 64 :=
  (by decide +kernel : ∀ t : Fin grid0.N, _)

/-- The array row that row `r` of tile `t` is read from. -/
abbrev src (t : Fin cfg0.N) (r : Fin 512) : Fin 33280 :=
  ⟨(t.val / 16) * 8320 + 128 + (t.val % 16) * 512 + r.val, by have := (idx t).2.2.2.2.2.2.2.2.2.2.2.2; omega⟩

/-- The element of its array that a tile of the residual stream places an index at. -/
theorem emb0 (t : Fin cfg0.N) (y : S512x1024.Idx) (a : Fin 2) :
    ((((View.whole main_arg0).slice (win0_0.rect t)).emb y) a : ℕ) = win0_0.index t a + (y a : ℕ) := by
  rw [View.emb_slice]
  show ((win0_0.rect t).emb y a : ℕ) = _
  rw [Rect.emb_apply]
  show win0_0.index t a + 1 * (y a : ℕ) = _
  omega

/-- The element of its array that a tile of the first mixer's output places an index at. -/
theorem emb6 (t : Fin cfg0.N) (y : S512x512.Idx) (a : Fin 2) :
    ((((View.whole main_v4).slice (win0_6.rect t)).emb y) a : ℕ) = win0_6.index t a + (y a : ℕ) := by
  rw [View.emb_slice]
  show ((win0_6.rect t).emb y a : ℕ) = _
  rw [Rect.emb_apply]
  show win0_6.index t a + 1 * (y a : ℕ) = _
  omega

/-- The element of its array that a tile of the second mixer's output places an index at. -/
theorem emb7 (t : Fin cfg0.N) (y : S512x512.Idx) (a : Fin 2) :
    ((((View.whole main_arg8).slice (win0_7.rect t)).emb y) a : ℕ) = win0_7.index t a + (y a : ℕ) := by
  rw [View.emb_slice]
  show ((win0_7.rect t).emb y a : ℕ) = _
  rw [Rect.emb_apply]
  show win0_7.index t a + 1 * (y a : ℕ) = _
  omega

/-- The residual stream's tile. -/
theorem blk0 (c : Dev nD) (t : Fin cfg0.N) (r : Fin 512) (k : Fin 1024) :
    (iblk m c 0 t : FVec Ideal S512x1024 .f32) (ix2 r k) = m ((c : Thread nD τ).loc main_arg0) (ix2 (src t r) k) := by
  blk_ext [iblk, V, idx t]
  · rw [emb0, (idx t).1]; rfl
  · rw [emb0, (idx t).1]; exact Nat.zero_add _

/-- The first mixer's tile, its columns regrouped. -/
theorem blk6 (c : Dev nD) (t : Fin cfg0.N) (r : Fin 512) (k : Fin 512) :
    (iblk m c 6 t : FVec Ideal S512x512 .bf16) (ix2 r k) = m ((c : Thread nD τ).loc main_arg7)
      (ix2 (src t r) ⟨k.val % 128 / 64 * 256 + k.val / 128 * 64 + k.val % 64, by omega⟩) := by
  have e0 := emb6 t (ix2 r k) 0
  have e1 := emb6 t (ix2 r k) 1
  rw [(idx t).2.2.2.2.2.2.1] at e0 e1
  replace e0 : _ = (t.val / 16) * 8320 + 128 + (t.val % 16) * 512 + r.val := e0
  replace e1 : _ = 0 + k.val := e1
  blk_point [iblk, V, idx t]
  all_goals first | (rw [e0]; done) | (rw [e1]; omega)

/-- The second mixer's tile. -/
theorem blk7 (c : Dev nD) (t : Fin cfg0.N) (r : Fin 512) (k : Fin 512) :
    (iblk m c 7 t : FVec Ideal S512x512 .bf16) (ix2 r k) = m ((c : Thread nD τ).loc main_arg8) (ix2 (src t r) k) := by
  blk_ext [iblk, V, idx t]
  · rw [emb7, (idx t).2.2.2.2.2.2.2.1]; rfl
  · rw [emb7, (idx t).2.2.2.2.2.2.2.1]; exact Nat.zero_add _

/-- The gain in front of the gate. -/
theorem blk1 (c : Dev nD) (t : Fin cfg0.N) (k : Fin 1024) :
    (iblk m c 1 t : FVec Ideal S1x1024 .f32) (ix2 0 k) = m ((c : Thread nD τ).loc main_arg2) (ix1 k) := by
  blk_point [iblk, V, idx t]

/-- The closing gain. -/
theorem blk2 (c : Dev nD) (t : Fin cfg0.N) (k : Fin 1024) :
    (iblk m c 2 t : FVec Ideal S1x1024 .f32) (ix2 0 k) = m ((c : Thread nD τ).loc main_arg3) (ix1 k) := by
  blk_point [iblk, V, idx t]

/-- The mixers' gain. -/
theorem blk8 (c : Dev nD) (t : Fin cfg0.N) (k : Fin 1024) :
    (iblk m c 8 t : FVec Ideal S1x1024 .f32) (ix2 0 k) = m ((c : Thread nD τ).loc main_arg1) (ix1 k) := by
  blk_point [iblk, V, idx t]

/-- The gate's weights. -/
theorem blk3 (c : Dev nD) (t : Fin cfg0.N) (k : Fin 1024) (f : Fin 2816) :
    (iblk m c 3 t : FVec Ideal S1024x2816 .bf16) (ix2 k f) = m ((c : Thread nD τ).loc main_arg4) (ix2 k f) := by
  blk_point [iblk, V, idx t]

/-- The up projection's weights. -/
theorem blk4 (c : Dev nD) (t : Fin cfg0.N) (k : Fin 1024) (f : Fin 2816) :
    (iblk m c 4 t : FVec Ideal S1024x2816 .bf16) (ix2 k f) = m ((c : Thread nD τ).loc main_arg5) (ix2 k f) := by
  blk_point [iblk, V, idx t]

/-- The down projection's weights. -/
theorem blk5 (c : Dev nD) (t : Fin cfg0.N) (f : Fin 2816) (k : Fin 1024) :
    (iblk m c 5 t : FVec Ideal S2816x1024 .bf16) (ix2 f k) = m ((c : Thread nD τ).loc main_arg6) (ix2 f k) := by
  blk_point [iblk, V, idx t]

/-- The first mixer's output weights, their rows regrouped. -/
theorem blk9 (c : Dev nD) (t : Fin cfg0.N) (k : Fin 512) (j : Fin 1024) :
    (iblk m c 9 t : FVec Ideal S512x1024 .bf16) (ix2 k j) = m ((c : Thread nD τ).loc main_arg9)
      (ix2 ⟨k.val % 128 / 64 * 256 + k.val / 128 * 64 + k.val % 64, by omega⟩ j) := by
  blk_point [iblk, V, idx t]

/-- The second mixer's output weights. -/
theorem blk10 (c : Dev nD) (t : Fin cfg0.N) (k : Fin 512) (j : Fin 1024) :
    (iblk m c 10 t : FVec Ideal S512x1024 .bf16) (ix2 k j) = m ((c : Thread nD τ).loc main_arg9) (ix2 ⟨512 + k.val, by omega⟩ j) := by
  blk_point [iblk, V, idx t]

end Cert.FfnHost

end
-- ==== Proof.FfnRef.lean ====
module

public import proofs.«01_k».proof.Proof.Gen.ReferenceFfnIdeal.Read
public import proofs.«01_k».proof.Proof.FfnSpec

@[expose] public section

set_option maxRecDepth 16384

noncomputable section

namespace Cert.FfnRef

open Cert.ReferenceFfnIdeal Cert.ReferenceFfnIdeal.Gen Cert.ReferenceFfnIdeal.Read
open Idealize.ShloMosaic Idealize.ShloMosaic.TcCoe Idealize.SL.Sem Cert.FfnSpec

variable (x0 : FVec Ideal S33280x1024 .f32) (x1 x2 x3 : FVec Ideal S1024 .f32)
  (x4 x5 : FVec Ideal S1024x2816 .f32) (x6 : FVec Ideal S2816x1024 .f32)
  (x7 x8 : FVec Ideal S33280x512 .bf16) (x9 : FVec Ideal S1024x1024 .f32)

/-- The row of the padded arrays that token `r` of batch `b` sits in. -/
abbrev src (b : Fin 4) (r : Fin 8192) : Fin 33280 := ⟨b.val * 8320 + (128 + r.val), by omega⟩

/-- The reference's output projection, read at an index. -/
theorem mix_at (b : Fin 4) (r : Fin 8192) (j : Fin 1024) :
    val_main_v9 (F := Ideal) x7 x8 x9 (ix3 b r j)
      = mix (fun k => x7 (ix2 (src b r) k)) (fun k => x8 (ix2 (src b r) k))
          (fun k j => x9 (ix2 ⟨k.val, by omega⟩ j)) (fun k j => x9 (ix2 ⟨512 + k.val, by omega⟩ j)) j := by
  pointwise [val_main_v9, val_main_v8, val_main_v7, val_main_v6, val_main_v5, val_main_v4, val_main_v3, val_main_v2, mix]

/-- The reference's residual row after the mixers. -/
theorem resid_at (b : Fin 4) (r : Fin 8192) (j : Fin 1024) :
    val_main_v23 (F := Ideal) x0 x1 x7 x8 x9 (ix3 b r j)
      = resid (fun k => x0 (ix2 (src b r) k)) (fun k => val_main_v9 (F := Ideal) x7 x8 x9 (ix3 b r k)) (fun k => x1 (ix1 k)) j := by
  pointwise [val_main_v23, val_main_v22, val_main_v21, val_main_v20, val_main_v19, val_main_v18, val_main_v17, val_main_v16,
    val_main_v15, val_main_v14, val_main_v13, val_main_v12, val_main_v11, val_main_v10, val_main_cst, val_main_cst_0, val_main_cst_1,
    val_main_v1, val_main_v0, resid, rms]

/-- The reference's normalised row in front of the gate. -/
theorem pre_at (b : Fin 4) (r : Fin 8192) (j : Fin 1024) :
    val_main_v36 (F := Ideal) x0 x1 x2 x7 x8 x9 (ix3 b r j)
      = rms (fun k => val_main_v23 (F := Ideal) x0 x1 x7 x8 x9 (ix3 b r k)) (fun k => x2 (ix1 k)) j := by
  pointwise [val_main_v36, val_main_v35, val_main_v34, val_main_v33, val_main_v32, val_main_v31, val_main_v30, val_main_v29,
    val_main_v28, val_main_v27, val_main_v26, val_main_v25, val_main_v24, val_main_cst_2, val_main_cst_3, val_main_cst_4, rms]

/-- The reference's gated hidden unit. -/
theorem act_at (b : Fin 4) (r : Fin 8192) (f : Fin 2816) :
    val_main_v40 (F := Ideal) x0 x1 x2 x4 x5 x7 x8 x9 (ix3 b r f)
      = act (fun k => val_main_v36 (F := Ideal) x0 x1 x2 x7 x8 x9 (ix3 b r k)) (fun k => x4 (ix2 k f)) (fun k => x5 (ix2 k f)) := by
  pointwise [val_main_v40, val_main_v39, val_main_v38, val_main_v37, val_main_call0_v5, val_main_call0_v4, val_main_call0_v3,
    val_main_call0_v2, val_main_call0_v1, val_main_call0_v0, val_main_call0_cst, val_main_call0_cst_0, act, Ideal.logistic]

/-- The reference's result before the final reshape. -/
theorem close_at (b : Fin 4) (r : Fin 8192) (j : Fin 1024) :
    val_main_v57 (F := Ideal) x0 x1 x2 x3 x4 x5 x6 x7 x8 x9 (ix3 b r j)
      = close (fun k => val_main_v23 (F := Ideal) x0 x1 x7 x8 x9 (ix3 b r k))
          (down (fun f => val_main_v40 (F := Ideal) x0 x1 x2 x4 x5 x7 x8 x9 (ix3 b r f)) (fun f k => x6 (ix2 f k)))
          (fun k => x3 (ix1 k)) j := by
  pointwise [val_main_v57, val_main_v56, val_main_v55, val_main_v54, val_main_v53, val_main_v52, val_main_v51, val_main_v50,
    val_main_v49, val_main_v48, val_main_v47, val_main_v46, val_main_v45, val_main_v44, val_main_v43, val_main_v42, val_main_v41,
    val_main_cst_5, val_main_cst_6, val_main_cst_7, val_main_cst_8, close, down, rms]

/-- The reference's result at token `r` of batch `b` is the row function of the rows it reads. -/
theorem row_at (b : Fin 4) (r : Fin 8192) (j : Fin 1024) :
    val_main_v57 (F := Ideal) x0 x1 x2 x3 x4 x5 x6 x7 x8 x9 (ix3 b r j)
      = row (fun k => x0 (ix2 (src b r) k)) (fun k => x7 (ix2 (src b r) k)) (fun k => x8 (ix2 (src b r) k))
          (fun k => x1 (ix1 k)) (fun k => x2 (ix1 k)) (fun k => x3 (ix1 k))
          (fun k f => x4 (ix2 k f)) (fun k f => x5 (ix2 k f)) (fun f k => x6 (ix2 f k))
          (fun k j => x9 (ix2 ⟨k.val, by omega⟩ j)) (fun k j => x9 (ix2 ⟨512 + k.val, by omega⟩ j)) j := by
  rw [close_at]
  simp only [act_at, pre_at, resid_at, mix_at]
  rfl

/-- The reference's result array, read at row `n` of batch `n / 8192`. -/
theorem res_at (n : Fin 32768) (j : Fin 1024) :
    val_main_v58 (F := Ideal) x0 x1 x2 x3 x4 x5 x6 x7 x8 x9 (ix2 n j)
      = val_main_v57 (F := Ideal) x0 x1 x2 x3 x4 x5 x6 x7 x8 x9
          (ix3 (⟨n.val / 8192, by omega⟩ : Fin 4) (⟨n.val % 8192, by omega⟩ : Fin 8192) j) := by
  pointwise [val_main_v58]

end Cert.FfnRef

end
-- ==== Proof.FfnValue.lean ====
module

public import proofs.«01_k».proof.Proof.FfnOut
public import proofs.«01_k».proof.Proof.FfnHost
public import proofs.«01_k».proof.Proof.FfnRef
public import Idealize.ShloMosaic.Lib.Pipeline.ValueKit

@[expose] public section

set_option maxRecDepth 16384

noncomputable section

namespace Cert.FfnValue

open Cert.KernelFfnIdeal Cert.KernelFfnIdeal.Gen
open Idealize.ShloMosaic Idealize.ShloMosaic.TcCoe Idealize.SL.Sem
open Idealize.ShloMosaic.Pipeline (Dat)

variable (m : (ℓ : Loc nD τ sig) → Buf (Elt Ideal) ℓ)

/-- The regrouping of the first mixer's columns: pair of heads by pair of heads in the kernel, half of the heads by half of the
    heads in the reference. -/
def regroup (k : Fin 512) : Fin 512 := ⟨k.val % 128 / 64 * 256 + k.val / 128 * 64 + k.val % 64, by omega⟩

/-- The regrouping is a permutation. -/
theorem regroup_bijective : Function.Bijective regroup := by
  refine Finite.injective_iff_bijective.1 fun a b h => ?_
  have h' := congrArg Fin.val h
  simp only [regroup] at h'
  apply Fin.ext
  omega

/-- The mixers' projection doesn't depend on the order of the first mixer's columns. -/
theorem mix_regroup (a b : Fin 512 → EReal) (wa wb : Fin 512 → Fin 1024 → EReal) :
    FfnSpec.mix (fun k => a (regroup k)) b (fun k => wa (regroup k)) wb = FfnSpec.mix a b wa wb := by
  funext j
  exact congrArg (· + _) (regroup_bijective.sum_comp fun k => a k * wa k j)

/-- Neither does the row function. -/
theorem row_regroup (h : Fin 1024 → EReal) (a b : Fin 512 → EReal) (gm gp go : Fin 1024 → EReal)
    (wg wu : Fin 1024 → Fin 2816 → EReal) (wd : Fin 2816 → Fin 1024 → EReal) (wa wb : Fin 512 → Fin 1024 → EReal) (j : Fin 1024) :
    FfnSpec.row h (fun k => a (regroup k)) b gm gp go wg wu wd (fun k => wa (regroup k)) wb j
      = FfnSpec.row h a b gm gp go wg wu wd wa wb j := by
  unfold FfnSpec.row
  rw [mix_regroup]

/-- The reference's result over the kernel's argument arrays. -/
def RES (c : Dev nD) : FVec Ideal S32768x1024 .f32 :=
  Cert.ReferenceFfnIdeal.Read.val_main_v58 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- Row `r` of tile `t` of the result, in the array. -/
abbrev dst (t : Fin cfg0.N) (r : Fin 512) : Fin 32768 :=
  ⟨t.val * 512 + r.val, by have := (FfnHost.idx t).2.2.2.2.2.2.2.2.2.2.2.2; omega⟩

/-- The reference reads the same rows for the result's row as the tile does. -/
theorem src_eq (t : Fin cfg0.N) (r : Fin 512) :
    FfnRef.src ⟨(dst t r).val / 8192, by omega⟩ ⟨(dst t r).val % 8192, by omega⟩ = FfnHost.src t r := by
  apply Fin.ext
  show (t.val * 512 + r.val) / 8192 * 8320 + (128 + (t.val * 512 + r.val) % 8192) = t.val / 16 * 8320 + 128 + t.val % 16 * 512 + r.val
  omega

/-- What the kernel leaves at row `r` of tile `t` is the reference's value there. -/
theorem point (c : Dev nD) (t : Fin cfg0.N) (r : Fin 512) (j : Fin 1024) : outsAt0 m c t (ix2 r j) = RES m c (ix2 (dst t r) j) := by
  rw [FfnOut.out_at]
  unfold RES
  rw [FfnRef.res_at, FfnRef.row_at, src_eq]
  simp only [FfnHost.blk0, FfnHost.blk1, FfnHost.blk2, FfnHost.blk3, FfnHost.blk4, FfnHost.blk5, FfnHost.blk6, FfnHost.blk7,
    FfnHost.blk8, FfnHost.blk9, FfnHost.blk10]
  exact row_regroup _ (fun k => (m ((c : Thread nD τ).loc main_arg7) : FVec Ideal S33280x512 .bf16) (ix2 (FfnHost.src t r) k)) _ _ _ _ _ _ _
    (fun k j => (m ((c : Thread nD τ).loc main_arg9) : FVec Ideal S1024x1024 .bf16) (ix2 ⟨k.val, by omega⟩ j)) _ j

/-- The element of the result that a tile places an index at. -/
theorem emb11 (t : Fin cfg0.N) (y : S512x1024.Idx) (a : Fin 2) :
    ((((View.whole main_v20).slice (win0_11.rect t)).emb y) a : ℕ) = win0_11.index t a * S512x1024.size a + (y a : ℕ) := by
  rw [View.emb_slice]
  show ((win0_11.rect t).emb y a : ℕ) = _
  rw [Rect.emb_apply]
  show win0_11.index t a * S512x1024.size a + 1 * (y a : ℕ) = _
  omega

/-- The kernel's result array is the reference's. -/
theorem final (c : Dev nD) : (dats m 0 c).arrAt 11 (cfgs 0).N = RES m c := by
  refine (dats m 0 c).arrAt_eq_of_covers 11 _ (by decide +kernel) fun t _ y => ?_
  blk_simp
  idx_vars y
  rw [after0_11, point]
  refine congrArg (RES m c) (funext fun a => Fin.ext ?_)
  have h := emb11 t (ix2 y0 y1) a
  rw [(FfnHost.idx t).2.2.2.2.2.2.2.2.2.2.2.1] at h
  refine Eq.trans ?_ h.symm
  fin_cases a
  · rfl
  · exact (Nat.zero_add _).symm

end Cert.FfnValue

end
-- ==== Proof.EvenKernel.lean ====
module

public import proofs.«01_k».proof.Proof.Gen.KernelEvenIdeal.Skeleton
public import proofs.«01_k».proof.Proof.FfnSpec

@[expose] public section

set_option maxRecDepth 16384

noncomputable section

namespace Cert.EvenKernel

open Cert.KernelEvenIdeal Cert.KernelEvenIdeal.Gen
open Idealize.ShloMosaic Idealize.ShloMosaic.TcCoe Idealize.SL.Sem Cert.FfnSpec

variable (x0 : FVec Ideal S640x1024 .f32) (x1 x2 x8 : FVec Ideal S1x1024 .f32)
  (x3 x4 : FVec Ideal S1024x2816 .bf16) (x5 : FVec Ideal S2816x1024 .bf16)
  (x6 x7 : FVec Ideal S640x512 .bf16) (x9 x10 : FVec Ideal S512x1024 .bf16)

/-- The tile's residual row after the mixers. -/
theorem resid_at (r : Fin 640) (j : Fin 1024) :
    k0_pay2 (F := Ideal) x0 x6 x9 x7 x10 x8 (ix2 r j)
      = resid (fun k => x0 (ix2 r k)) (mix (fun k => x6 (ix2 r k)) (fun k => x7 (ix2 r k))
          (fun k j => x9 (ix2 k j)) (fun k j => x10 (ix2 k j))) (fun k => x8 (ix2 0 k)) j := by
  pointwise [k0_pay2, resid, rms, mix]

/-- The tile's normalised row in front of the gate. -/
theorem pre_at (v : FVec Ideal S640x1024 .f32) (h : v = k0_pay2 (F := Ideal) x0 x6 x9 x7 x10 x8) (r : Fin 640) (j : Fin 1024) :
    k0_pay5 (F := Ideal) (k0_pay3 x1) (k0_pay4 (F := Ideal) x0 x6 x9 x7 x10 x8) (ix2 r j)
      = rms (fun k => v (ix2 r k)) (fun k => x1 (ix2 0 k)) j := by
  subst h
  generalize hv : k0_pay2 (F := Ideal) x0 x6 x9 x7 x10 x8 = v
  pointwise [k0_pay5, k0_pay3, k0_pay4, hv, rms]

/-- One column chunk of the tile's gated hidden units. -/
theorem act_at (u : FVec Ideal S640x1024 .bf16) (g w : FVec Ideal S1024x256 .bf16) (r : Fin 640) (f : Fin 256) :
    k0_pay6 (F := Ideal) u g w (ix2 r f) = act (fun k => u (ix2 r k)) (fun k => g (ix2 k f)) (fun k => w (ix2 k f)) := by
  pointwise [k0_pay6, act]

/-- The tile's result from its residual rows and its hidden units. -/
theorem close_at (x : FVec Ideal S640x1024 .f32) (p : FVec Ideal S640x2816 .bf16) (r : Fin 640) (j : Fin 1024) :
    k0_pay1 (F := Ideal) x (k0_pay19 p x5) (k0_pay20 x2) (k0_pay21 p x5) (ix2 r j)
      = close (fun k => x (ix2 r k)) (down (fun f => p (ix2 r f)) (fun f k => x5 (ix2 f k))) (fun k => x2 (ix2 0 k)) j := by
  pointwise [k0_pay1, k0_pay19, k0_pay20, k0_pay21, close, down, rms]

end Cert.EvenKernel

end
-- ==== Proof.EvenOut.lean ====
module

public import proofs.«01_k».proof.Proof.Gen.KernelEvenIdeal.Value
public import proofs.«01_k».proof.Proof.EvenKernel
public import Idealize.ShloMosaic.Lib.Pipeline.ValueKit

@[expose] public section

set_option maxRecDepth 16384

noncomputable section

namespace Cert.EvenOut

open Cert.KernelEvenIdeal Cert.KernelEvenIdeal.Gen
open Idealize.ShloMosaic Idealize.ShloMosaic.TcCoe Idealize.SL.Sem
open Idealize.ShloMosaic.Pipeline (Dat)

variable (m : (ℓ : Loc nD τ sig) → Buf (Elt Ideal) ℓ)

/-- Entry `(a, b)` of the tile of columns from `o` is entry `(a, o + b)` of the hidden block. -/
theorem emb_cols (o : ℕ) (h : o + 256 ≤ 2816) (hin : _) (a : Fin 640) (b : Fin 256) :
    (Rect.unit (s := S640x2816) ![0, o] ![640, 256] hin).emb (ix2 a b) = ix2 a ⟨o + b.val, by omega⟩ := by
  funext i
  fin_cases i
  · apply Fin.ext; show 0 + 1 * a.val = a.val; omega
  · apply Fin.ext; show o + 1 * b.val = o + b.val; omega

/-- What the body leaves in the output's block, row by row: the row function of the block's rows. -/
theorem out_at (c : Dev nD) (t : Fin cfg0.N) (r : Fin 640) (j : Fin 1024) :
    outsAt0 m c t (ix2 r j)
      = FfnSpec.row (fun k => (iblk m c 0 t : FVec Ideal S640x1024 .f32) (ix2 r k))
          (fun k => (iblk m c 6 t : FVec Ideal S640x512 .bf16) (ix2 r k)) (fun k => (iblk m c 7 t : FVec Ideal S640x512 .bf16) (ix2 r k))
          (fun k => (iblk m c 8 t : FVec Ideal S1x1024 .f32) (ix2 0 k)) (fun k => (iblk m c 1 t : FVec Ideal S1x1024 .f32) (ix2 0 k))
          (fun k => (iblk m c 2 t : FVec Ideal S1x1024 .f32) (ix2 0 k))
          (fun k f => (iblk m c 3 t : FVec Ideal S1024x2816 .bf16) (ix2 k f)) (fun k f => (iblk m c 4 t : FVec Ideal S1024x2816 .bf16) (ix2 k f))
          (fun f k => (iblk m c 5 t : FVec Ideal S2816x1024 .bf16) (ix2 f k))
          (fun k j => (iblk m c 9 t : FVec Ideal S512x1024 .bf16) (ix2 k j)) (fun k j => (iblk m c 10 t : FVec Ideal S512x1024 .bf16) (ix2 k j)) j := by
  have hx := fun (r : Fin 640) (j : Fin 1024) => EvenKernel.resid_at (iblk m c 0 t) (iblk m c 8 t) (iblk m c 6 t) (iblk m c 7 t) (iblk m c 9 t) (iblk m c 10 t) r j
  have hz := fun (r : Fin 640) (j : Fin 1024) => EvenKernel.pre_at (iblk m c 0 t) (iblk m c 1 t) (iblk m c 8 t) (iblk m c 6 t) (iblk m c 7 t) (iblk m c 9 t) (iblk m c 10 t) _ rfl r j
  unfold outsAt0
  frame_out
  generalize k0_pay2 (F := Ideal) (iblk m c 0 t) (iblk m c 6 t) (iblk m c 9 t) (iblk m c 7 t) (iblk m c 10 t) (iblk m c 8 t) = v at *
  generalize k0_pay5 (k0_pay3 (iblk m c 1 t)) (k0_pay4 (iblk m c 0 t) (iblk m c 6 t) (iblk m c 9 t) (iblk m c 7 t) (iblk m c 10 t) (iblk m c 8 t)) = u at *
  rw [View.readCov_eq_canon_ld]
  rotate_left
  · exact fun y => View.cover_of_tiledL _ (![640, 256] : Fin S640x2816.rank → ℕ) (by sl_kernel_rfl) y
  rw [View.ld_unit_zero (by funext a; fin_cases a <;> rfl), EvenKernel.close_at]
  unfold FfnSpec.row
  have hx' := funext (hx r)
  have hz' := funext (hz r)
  simp only [← hx']
  congr 2
  funext f
  refine (View.canon_apply_of_pieces (Val := Elt Ideal) (S := S640x2816) (e := .bf16) (fun y => FfnSpec.act (fun k => u (ix2 (y 0) k))
    (fun k => (iblk m c 3 t : FVec Ideal S1024x2816 .bf16) (ix2 k (y 1))) (fun k => (iblk m c 4 t : FVec Ideal S1024x2816 .bf16) (ix2 k (y 1)))) _ ?_ _
    ?_).trans ?_
  rotate_left
  · exact View.cover_of_tiledL _ (![640, 256] : Fin S640x2816.rank → ℕ) (by sl_kernel_rfl) _
  · rw [← hz']
    rfl
  clear hx hz hx' hz'
  repeat' (first | exact List.forall_mem_nil _ | refine List.forall_mem_cons.2 ⟨?_, ?_⟩)
  all_goals (intro (x : S640x256.Idx); idx_vars x)
  all_goals
    rw [emb_cols _ (by decide)]
    pointwise [k0_pay6, k0_pay7, k0_pay8, k0_pay9, k0_pay10, k0_pay11, k0_pay12, k0_pay13, k0_pay14, k0_pay15, k0_pay16, k0_pay17, k0_pay18, FfnSpec.act]

end Cert.EvenOut

end
-- ==== Proof.EvenHost.lean ====
module

public import proofs.«01_k».proof.Proof.Gen.KernelEvenIdeal.Frame
public import proofs.«01_k».proof.Proof.FfnSpec
public import Idealize.ShloMosaic.Lib.Pipeline.ValueKit

@[expose] public section

set_option maxRecDepth 16384

noncomputable section

namespace Cert.EvenHost

open Cert.KernelEvenIdeal Cert.KernelEvenIdeal.Gen
open Idealize.ShloMosaic Idealize.ShloMosaic.TcCoe Idealize.SL.Sem
open Idealize.ShloMosaic.Pipeline (Dat)

variable (m : (ℓ : Loc nD τ sig) → Buf (Elt Ideal) ℓ)

/-- The windows' index maps at every grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![0, 0]
    ∧ win0_9.index t = ![0, 0]
    ∧ win0_10.index t = ![0, 0]
    ∧ win0_11.index t = ![t.val, 0]
    ∧ t.val < 52 :=
  (by decide +kernel : ∀ t : Fin grid0.N, _)

/-- The array row that row `r` of tile `t` is read from. -/
abbrev src (t : Fin cfg0.N) (r : Fin 640) : Fin 33280 :=
  ⟨t.val * 640 + r.val, by have := (idx t).2.2.2.2.2.2.2.2.2.2.2.2; omega⟩

/-- The residual stream's tile. -/
theorem blk0 (c : Dev nD) (t : Fin cfg0.N) (r : Fin 640) (k : Fin 1024) :
    (iblk m c 0 t : FVec Ideal S640x1024 .f32) (ix2 r k) = m ((c : Thread nD τ).loc main_arg0) (ix2 (src t r) k) := by
  blk_point [iblk, V, idx t]

/-- The first mixer's tile. -/
theorem blk6 (c : Dev nD) (t : Fin cfg0.N) (r : Fin 640) (k : Fin 512) :
    (iblk m c 6 t : FVec Ideal S640x512 .bf16) (ix2 r k) = m ((c : Thread nD τ).loc main_arg7) (ix2 (src t r) k) := by
  blk_point [iblk, V, idx t]

/-- The second mixer's tile. -/
theorem blk7 (c : Dev nD) (t : Fin cfg0.N) (r : Fin 640) (k : Fin 512) :
    (iblk m c 7 t : FVec Ideal S640x512 .bf16) (ix2 r k) = m ((c : Thread nD τ).loc main_arg8) (ix2 (src t r) k) := by
  blk_point [iblk, V, idx t]

/-- The gain in front of the gate. -/
theorem blk1 (c : Dev nD) (t : Fin cfg0.N) (k : Fin 1024) :
    (iblk m c 1 t : FVec Ideal S1x1024 .f32) (ix2 0 k) = m ((c : Thread nD τ).loc main_arg2) (ix1 k) := by
  blk_point [iblk, V, idx t]

/-- The closing gain. -/
theorem blk2 (c : Dev nD) (t : Fin cfg0.N) (k : Fin 1024) :
    (iblk m c 2 t : FVec Ideal S1x1024 .f32) (ix2 0 k) = m ((c : Thread nD τ).loc main_arg3) (ix1 k) := by
  blk_point [iblk, V, idx t]

/-- The mixers' gain. -/
theorem blk8 (c : Dev nD) (t : Fin cfg0.N) (k : Fin 1024) :
    (iblk m c 8 t : FVec Ideal S1x1024 .f32) (ix2 0 k) = m ((c : Thread nD τ).loc main_arg1) (ix1 k) := by
  blk_point [iblk, V, idx t]

/-- The gate's weights. -/
theorem blk3 (c : Dev nD) (t : Fin cfg0.N) (k : Fin 1024) (f : Fin 2816) :
    (iblk m c 3 t : FVec Ideal S1024x2816 .bf16) (ix2 k f) = m ((c : Thread nD τ).loc main_arg4) (ix2 k f) := by
  blk_point [iblk, V, idx t]

/-- The up projection's weights. -/
theorem blk4 (c : Dev nD) (t : Fin cfg0.N) (k : Fin 1024) (f : Fin 2816) :
    (iblk m c 4 t : FVec Ideal S1024x2816 .bf16) (ix2 k f) = m ((c : Thread nD τ).loc main_arg5) (ix2 k f) := by
  blk_point [iblk, V, idx t]

/-- The down projection's weights. -/
theorem blk5 (c : Dev nD) (t : Fin cfg0.N) (f : Fin 2816) (k : Fin 1024) :
    (iblk m c 5 t : FVec Ideal S2816x1024 .bf16) (ix2 f k) = m ((c : Thread nD τ).loc main_arg6) (ix2 f k) := by
  blk_point [iblk, V, idx t]

/-- The first mixer's output weights. -/
theorem blk9 (c : Dev nD) (t : Fin cfg0.N) (k : Fin 512) (j : Fin 1024) :
    (iblk m c 9 t : FVec Ideal S512x1024 .bf16) (ix2 k j) = m ((c : Thread nD τ).loc main_arg9) (ix2 ⟨k.val, by omega⟩ j) := by
  blk_point [iblk, V, idx t]

/-- The second mixer's output weights. -/
theorem blk10 (c : Dev nD) (t : Fin cfg0.N) (k : Fin 512) (j : Fin 1024) :
    (iblk m c 10 t : FVec Ideal S512x1024 .bf16) (ix2 k j) = m ((c : Thread nD τ).loc main_arg9) (ix2 ⟨512 + k.val, by omega⟩ j) := by
  blk_point [iblk, V, idx t]

end Cert.EvenHost

end
-- ==== Proof.EvenRef.lean ====
module

public import proofs.«01_k».proof.Proof.Gen.ReferenceEvenIdeal.Read
public import proofs.«01_k».proof.Proof.FfnSpec

@[expose] public section

set_option maxRecDepth 16384

noncomputable section

namespace Cert.EvenRef

open Cert.ReferenceEvenIdeal Cert.ReferenceEvenIdeal.Gen Cert.ReferenceEvenIdeal.Read
open Idealize.ShloMosaic Idealize.ShloMosaic.TcCoe Idealize.SL.Sem Cert.FfnSpec

variable (x0 : FVec Ideal S33280x1024 .f32) (x1 x2 x3 : FVec Ideal S1024 .f32)
  (x4 x5 : FVec Ideal S1024x2816 .f32) (x6 : FVec Ideal S2816x1024 .f32)
  (x7 x8 : FVec Ideal S33280x512 .bf16) (x9 : FVec Ideal S1024x1024 .f32)

/-- The reference's output projection, read at an index. -/
theorem mix_at (n : Fin 33280) (j : Fin 1024) :
    val_main_v3 (F := Ideal) x7 x8 x9 (ix2 n j)
      = mix (fun k => x7 (ix2 n k)) (fun k => x8 (ix2 n k))
          (fun k j => x9 (ix2 ⟨k.val, by omega⟩ j)) (fun k j => x9 (ix2 ⟨512 + k.val, by omega⟩ j)) j := by
  pointwise [val_main_v3, val_main_v2, val_main_v1, val_main_v0, mix]

/-- The reference's residual row after the mixers. -/
theorem resid_at (n : Fin 33280) (j : Fin 1024) :
    val_main_v17 (F := Ideal) x0 x1 x7 x8 x9 (ix2 n j)
      = resid (fun k => x0 (ix2 n k)) (fun k => val_main_v3 (F := Ideal) x7 x8 x9 (ix2 n k)) (fun k => x1 (ix1 k)) j := by
  pointwise [val_main_v17, val_main_v16, val_main_v15, val_main_v14, val_main_v13, val_main_v12, val_main_v11, val_main_v10, val_main_v9, val_main_v8, val_main_v7, val_main_v6, val_main_v5, val_main_v4, val_main_cst, val_main_cst_0, val_main_cst_1, resid, rms]

/-- The reference's normalised row in front of the gate. -/
theorem pre_at (n : Fin 33280) (j : Fin 1024) :
    val_main_v30 (F := Ideal) x0 x1 x2 x7 x8 x9 (ix2 n j)
      = rms (fun k => val_main_v17 (F := Ideal) x0 x1 x7 x8 x9 (ix2 n k)) (fun k => x2 (ix1 k)) j := by
  pointwise [val_main_v30, val_main_v29, val_main_v28, val_main_v27, val_main_v26, val_main_v25, val_main_v24, val_main_v23, val_main_v22, val_main_v21, val_main_v20, val_main_v19, val_main_v18, val_main_cst_2, val_main_cst_3, val_main_cst_4, rms]

/-- The reference's gated hidden unit. -/
theorem act_at (n : Fin 33280) (f : Fin 2816) :
    val_main_v34 (F := Ideal) x0 x1 x2 x4 x5 x7 x8 x9 (ix2 n f)
      = act (fun k => val_main_v30 (F := Ideal) x0 x1 x2 x7 x8 x9 (ix2 n k)) (fun k => x4 (ix2 k f)) (fun k => x5 (ix2 k f)) := by
  pointwise [val_main_v34, val_main_v33, val_main_v32, val_main_v31, val_main_call0_v5, val_main_call0_v4, val_main_call0_v3, val_main_call0_v2, val_main_call0_v1, val_main_call0_v0, val_main_call0_cst, val_main_call0_cst_0,
    act, Ideal.logistic]

/-- The reference's result from its residual rows and its hidden units. -/
theorem close_at (n : Fin 33280) (j : Fin 1024) :
    val_main_v51 (F := Ideal) x0 x1 x2 x3 x4 x5 x6 x7 x8 x9 (ix2 n j)
      = close (fun k => val_main_v17 (F := Ideal) x0 x1 x7 x8 x9 (ix2 n k))
          (down (fun f => val_main_v34 (F := Ideal) x0 x1 x2 x4 x5 x7 x8 x9 (ix2 n f)) (fun f k => x6 (ix2 f k)))
          (fun k => x3 (ix1 k)) j := by
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_cst_5, val_main_cst_6, val_main_cst_7, val_main_cst_8, close, down, rms]

/-- The reference's result at row `n` is the row function of the rows it reads. -/
theorem row_at (n : Fin 33280) (j : Fin 1024) :
    val_main_v51 (F := Ideal) x0 x1 x2 x3 x4 x5 x6 x7 x8 x9 (ix2 n j)
      = row (fun k => x0 (ix2 n k)) (fun k => x7 (ix2 n k)) (fun k => x8 (ix2 n k))
          (fun k => x1 (ix1 k)) (fun k => x2 (ix1 k)) (fun k => x3 (ix1 k))
          (fun k f => x4 (ix2 k f)) (fun k f => x5 (ix2 k f)) (fun f k => x6 (ix2 f k))
          (fun k j => x9 (ix2 ⟨k.val, by omega⟩ j)) (fun k j => x9 (ix2 ⟨512 + k.val, by omega⟩ j)) j := by
  rw [close_at]
  simp only [act_at, pre_at, resid_at, mix_at]
  rfl

end Cert.EvenRef

end
-- ==== Proof.EvenValue.lean ====
module

public import proofs.«01_k».proof.Proof.EvenOut
public import proofs.«01_k».proof.Proof.EvenHost
public import proofs.«01_k».proof.Proof.EvenRef
public import Idealize.ShloMosaic.Lib.Pipeline.ValueKit

@[expose] public section

set_option maxRecDepth 16384

noncomputable section

namespace Cert.EvenValue

open Cert.KernelEvenIdeal Cert.KernelEvenIdeal.Gen
open Idealize.ShloMosaic Idealize.ShloMosaic.TcCoe Idealize.SL.Sem
open Idealize.ShloMosaic.Pipeline (Dat)

variable (m : (ℓ : Loc nD τ sig) → Buf (Elt Ideal) ℓ)

/-- The reference's result over the kernel's argument arrays. -/
def RES (c : Dev nD) : FVec Ideal S33280x1024 .f32 :=
  Cert.ReferenceEvenIdeal.Read.val_main_v51 (F := Ideal)
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))

/-- What the kernel leaves at row `r` of tile `t` is the reference's value there. -/
theorem point (c : Dev nD) (t : Fin cfg0.N) (r : Fin 640) (j : Fin 1024) :
    outsAt0 m c t (ix2 r j) = RES m c (ix2 (EvenHost.src t r) j) := by
  rw [EvenOut.out_at]
  unfold RES
  rw [EvenRef.row_at]
  simp only [EvenHost.blk0, EvenHost.blk1, EvenHost.blk2, EvenHost.blk3, EvenHost.blk4, EvenHost.blk5, EvenHost.blk6, EvenHost.blk7, EvenHost.blk8, EvenHost.blk9, EvenHost.blk10]

/-- The element of the result that a tile places an index at. -/
theorem emb11 (t : Fin cfg0.N) (y : S640x1024.Idx) (a : Fin 2) :
    ((((View.whole main_v9).slice (win0_11.rect t)).emb y) a : ℕ) = win0_11.index t a * S640x1024.size a + (y a : ℕ) := by
  rw [View.emb_slice]
  show ((win0_11.rect t).emb y a : ℕ) = _
  rw [Rect.emb_apply]
  show win0_11.index t a * S640x1024.size a + 1 * (y a : ℕ) = _
  omega

/-- The kernel's result array is the reference's. -/
theorem final (c : Dev nD) : (dats m 0 c).arrAt 11 (cfgs 0).N = RES m c := by
  refine (dats m 0 c).arrAt_eq_of_covers 11 _ (by decide +kernel) fun t _ y => ?_
  blk_simp
  idx_vars y
  rw [after0_11, point]
  refine congrArg (RES m c) (funext fun a => Fin.ext ?_)
  have h := emb11 t (ix2 y0 y1) a
  rw [(EvenHost.idx t).2.2.2.2.2.2.2.2.2.2.2.1] at h
  refine Eq.trans ?_ h.symm
  fin_cases a
  · rfl
  · exact (Nat.zero_add _).symm

end Cert.EvenValue

end
-- ==== Proof.OddKernel.lean ====
module

public import proofs.«01_k».proof.Proof.Gen.KernelOddIdeal.Skeleton
public import proofs.«01_k».proof.Proof.FfnSpec

@[expose] public section

set_option maxRecDepth 16384

noncomputable section

namespace Cert.OddKernel

open Cert.KernelOddIdeal Cert.KernelOddIdeal.Gen
open Idealize.ShloMosaic Idealize.ShloMosaic.TcCoe Idealize.SL.Sem Cert.FfnSpec

variable (x0 : FVec Ideal S640x1024 .f32) (x1 x2 : FVec Ideal S1x1024 .f32) (x5 : FVec Ideal S2816x1024 .bf16)

/-- The tile's normalised row in front of the gate. -/
theorem pre_at (r : Fin 640) (j : Fin 1024) :
    k0_pay3 (F := Ideal) x0 x1 (ix2 r j) = rms (fun k => x0 (ix2 r k)) (fun k => x1 (ix2 0 k)) j := by
  pointwise [k0_pay3, rms]

/-- The tile's result from its rows and its hidden units. -/
theorem close_at (p : FVec Ideal S640x2816 .bf16) (r : Fin 640) (j : Fin 1024) :
    k0_pay2 (F := Ideal) x0 p x5 x2 (ix2 r j)
      = close (fun k => x0 (ix2 r k)) (down (fun f => p (ix2 r f)) (fun f k => x5 (ix2 f k))) (fun k => x2 (ix2 0 k)) j := by
  pointwise [k0_pay2, close, down, rms]

end Cert.OddKernel

end
-- ==== Proof.OddOut.lean ====
module

public import proofs.«01_k».proof.Proof.Gen.KernelOddIdeal.Value
public import proofs.«01_k».proof.Proof.OddKernel
public import Idealize.ShloMosaic.Lib.Pipeline.ValueKit

@[expose] public section

set_option maxRecDepth 16384

noncomputable section

namespace Cert.OddOut

open Cert.KernelOddIdeal Cert.KernelOddIdeal.Gen
open Idealize.ShloMosaic Idealize.ShloMosaic.TcCoe Idealize.SL.Sem
open Idealize.ShloMosaic.Pipeline (Dat)

variable (m : (ℓ : Loc nD τ sig) → Buf (Elt Ideal) ℓ)

/-- Entry `(a, b)` of the tile of columns from `o` is entry `(a, o + b)` of the hidden block. -/
theorem emb_cols (o : ℕ) (h : o + 256 ≤ 2816) (hin : _) (a : Fin 640) (b : Fin 256) :
    (Rect.unit (s := S640x2816) ![0, o] ![640, 256] hin).emb (ix2 a b) = ix2 a ⟨o + b.val, by omega⟩ := by
  funext i
  fin_cases i
  · apply Fin.ext; show 0 + 1 * a.val = a.val; omega
  · apply Fin.ext; show o + 1 * b.val = o + b.val; omega

/-- What the body leaves in the output's block, row by row: the row function of the block's rows. -/
theorem out_at (c : Dev nD) (t : Fin cfg0.N) (r : Fin 640) (j : Fin 1024) :
    outsAt0 m c t (ix2 r j)
      = FfnSpec.plain (fun k => (iblk m c 0 t : FVec Ideal S640x1024 .f32) (ix2 r k)) (fun k => (iblk m c 1 t : FVec Ideal S1x1024 .f32) (ix2 0 k)) (fun k => (iblk m c 2 t : FVec Ideal S1x1024 .f32) (ix2 0 k))
          (fun k f => (iblk m c 3 t : FVec Ideal S1024x2816 .bf16) (ix2 k f)) (fun k f => (iblk m c 4 t : FVec Ideal S1024x2816 .bf16) (ix2 k f))
          (fun f k => (iblk m c 5 t : FVec Ideal S2816x1024 .bf16) (ix2 f k)) j := by
  have hz := fun (r : Fin 640) (j : Fin 1024) => OddKernel.pre_at (iblk m c 0 t) (iblk m c 1 t) r j
  unfold outsAt0
  frame_out
  generalize k0_pay3 (F := Ideal) (iblk m c 0 t) (iblk m c 1 t) = u at *
  rw [View.readCov_eq_canon_ld]
  rotate_left
  · exact fun y => View.cover_of_tiledL _ (![640, 256] : Fin S640x2816.rank → ℕ) (by sl_kernel_rfl) y
  rw [View.ld_unit_zero (by funext a; fin_cases a <;> rfl), OddKernel.close_at]
  unfold FfnSpec.plain
  have hz' := funext (hz r)
  congr 2
  funext f
  refine (View.canon_apply_of_pieces (Val := Elt Ideal) (S := S640x2816) (e := .bf16) (fun y => FfnSpec.act (fun k => u (ix2 (y 0) k))
    (fun k => (iblk m c 3 t : FVec Ideal S1024x2816 .bf16) (ix2 k (y 1))) (fun k => (iblk m c 4 t : FVec Ideal S1024x2816 .bf16) (ix2 k (y 1)))) _ ?_ _
    ?_).trans ?_
  rotate_left
  · exact View.cover_of_tiledL _ (![640, 256] : Fin S640x2816.rank → ℕ) (by sl_kernel_rfl) _
  · rw [← hz']
    rfl
  clear hz hz'
  repeat' (first | exact List.forall_mem_nil _ | refine List.forall_mem_cons.2 ⟨?_, ?_⟩)
  all_goals (intro (x : S640x256.Idx); idx_vars x)
  all_goals
    rw [emb_cols _ (by decide)]
    pointwise [k0_pay1, k0_pay4, k0_pay5, k0_pay6, k0_pay7, k0_pay8, k0_pay9, k0_pay10, k0_pay11, k0_pay12, k0_pay13, k0_pay14, k0_pay15, k0_pay16, k0_pay17, FfnSpec.act]

end Cert.OddOut

end
-- ==== Proof.OddHost.lean ====
module

public import proofs.«01_k».proof.Proof.Gen.KernelOddIdeal.Frame
public import proofs.«01_k».proof.Proof.FfnSpec
public import Idealize.ShloMosaic.Lib.Pipeline.ValueKit

@[expose] public section

set_option maxRecDepth 16384

noncomputable section

namespace Cert.OddHost

open Cert.KernelOddIdeal Cert.KernelOddIdeal.Gen
open Idealize.ShloMosaic Idealize.ShloMosaic.TcCoe Idealize.SL.Sem
open Idealize.ShloMosaic.Pipeline (Dat)

variable (m : (ℓ : Loc nD τ sig) → Buf (Elt Ideal) ℓ)

/-- The windows' index maps at every grid point. -/
theorem idx : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![t.val, 0]
    ∧ t.val < 52 :=
  (by decide +kernel : ∀ t : Fin grid0.N, _)

/-- The array row that row `r` of tile `t` is read from. -/
abbrev src (t : Fin cfg0.N) (r : Fin 640) : Fin 33280 :=
  ⟨t.val * 640 + r.val, by have := (idx t).2.2.2.2.2.2.2; omega⟩

/-- The residual stream's tile. -/
theorem blk0 (c : Dev nD) (t : Fin cfg0.N) (r : Fin 640) (k : Fin 1024) :
    (iblk m c 0 t : FVec Ideal S640x1024 .f32) (ix2 r k) = m ((c : Thread nD τ).loc main_arg0) (ix2 (src t r) k) := by
  blk_point [iblk, V, idx t]

/-- The gain in front of the gate. -/
theorem blk1 (c : Dev nD) (t : Fin cfg0.N) (k : Fin 1024) :
    (iblk m c 1 t : FVec Ideal S1x1024 .f32) (ix2 0 k) = m ((c : Thread nD τ).loc main_arg1) (ix1 k) := by
  blk_point [iblk, V, idx t]

/-- The closing gain. -/
theorem blk2 (c : Dev nD) (t : Fin cfg0.N) (k : Fin 1024) :
    (iblk m c 2 t : FVec Ideal S1x1024 .f32) (ix2 0 k) = m ((c : Thread nD τ).loc main_arg2) (ix1 k) := by
  blk_point [iblk, V, idx t]

/-- The gate's weights. -/
theorem blk3 (c : Dev nD) (t : Fin cfg0.N) (k : Fin 1024) (f : Fin 2816) :
    (iblk m c 3 t : FVec Ideal S1024x2816 .bf16) (ix2 k f) = m ((c : Thread nD τ).loc main_arg3) (ix2 k f) := by
  blk_point [iblk, V, idx t]

/-- The up projection's weights. -/
theorem blk4 (c : Dev nD) (t : Fin cfg0.N) (k : Fin 1024) (f : Fin 2816) :
    (iblk m c 4 t : FVec Ideal S1024x2816 .bf16) (ix2 k f) = m ((c : Thread nD τ).loc main_arg4) (ix2 k f) := by
  blk_point [iblk, V, idx t]

/-- The down projection's weights. -/
theorem blk5 (c : Dev nD) (t : Fin cfg0.N) (f : Fin 2816) (k : Fin 1024) :
    (iblk m c 5 t : FVec Ideal S2816x1024 .bf16) (ix2 f k) = m ((c : Thread nD τ).loc main_arg5) (ix2 f k) := by
  blk_point [iblk, V, idx t]

end Cert.OddHost

end
-- ==== Proof.OddRef.lean ====
module

public import proofs.«01_k».proof.Proof.Gen.ReferenceOddIdeal.Read
public import proofs.«01_k».proof.Proof.FfnSpec

@[expose] public section

set_option maxRecDepth 16384

noncomputable section

namespace Cert.OddRef

open Cert.ReferenceOddIdeal Cert.ReferenceOddIdeal.Gen Cert.ReferenceOddIdeal.Read
open Idealize.ShloMosaic Idealize.ShloMosaic.TcCoe Idealize.SL.Sem Cert.FfnSpec

variable (x0 : FVec Ideal S33280x1024 .f32) (x1 x2 : FVec Ideal S1024 .f32)
  (x3 x4 : FVec Ideal S1024x2816 .f32) (x5 : FVec Ideal S2816x1024 .f32)

/-- The reference's normalised row in front of the gate. -/
theorem pre_at (n : Fin 33280) (j : Fin 1024) :
    val_main_v12 (F := Ideal) x0 x1 (ix2 n j) = rms (fun k => x0 (ix2 n k)) (fun k => x1 (ix1 k)) j := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, rms]

/-- The reference's gated hidden unit. -/
theorem act_at (n : Fin 33280) (f : Fin 2816) :
    val_main_v16 (F := Ideal) x0 x1 x3 x4 (ix2 n f)
      = act (fun k => val_main_v12 (F := Ideal) x0 x1 (ix2 n k)) (fun k => x3 (ix2 k f)) (fun k => x4 (ix2 k f)) := by
  pointwise [val_main_v16, val_main_v15, val_main_v14, val_main_v13, val_main_call0_v5, val_main_call0_v4, val_main_call0_v3, val_main_call0_v2, val_main_call0_v1, val_main_call0_v0, val_main_call0_cst, val_main_call0_cst_0,
    act, Ideal.logistic]

/-- The reference's result from its rows and its hidden units. -/
theorem close_at (n : Fin 33280) (j : Fin 1024) :
    val_main_v33 (F := Ideal) x0 x1 x2 x3 x4 x5 (ix2 n j)
      = close (fun k => x0 (ix2 n k))
          (down (fun f => val_main_v16 (F := Ideal) x0 x1 x3 x4 (ix2 n f)) (fun f k => x5 (ix2 f k)))
          (fun k => x2 (ix1 k)) j := by
  pointwise [val_main_v33, val_main_v32, val_main_v31, val_main_v30, val_main_v29, val_main_v28, val_main_v27, val_main_v26, val_main_v25, val_main_v24, val_main_v23, val_main_v22, val_main_v21, val_main_v20, val_main_v19, val_main_v18, val_main_v17, val_main_cst_2, val_main_cst_3, val_main_cst_4, val_main_cst_5, close, down, rms]

/-- The reference's result at row `n` is the row function of the row it reads. -/
theorem row_at (n : Fin 33280) (j : Fin 1024) :
    val_main_v33 (F := Ideal) x0 x1 x2 x3 x4 x5 (ix2 n j)
      = plain (fun k => x0 (ix2 n k)) (fun k => x1 (ix1 k)) (fun k => x2 (ix1 k))
          (fun k f => x3 (ix2 k f)) (fun k f => x4 (ix2 k f)) (fun f k => x5 (ix2 f k)) j := by
  rw [close_at]
  simp only [act_at, pre_at]
  rfl

end Cert.OddRef

end
-- ==== Proof.OddValue.lean ====
module

public import proofs.«01_k».proof.Proof.OddOut
public import proofs.«01_k».proof.Proof.OddHost
public import proofs.«01_k».proof.Proof.OddRef
public import Idealize.ShloMosaic.Lib.Pipeline.ValueKit

@[expose] public section

set_option maxRecDepth 16384

noncomputable section

namespace Cert.OddValue

open Cert.KernelOddIdeal Cert.KernelOddIdeal.Gen
open Idealize.ShloMosaic Idealize.ShloMosaic.TcCoe Idealize.SL.Sem
open Idealize.ShloMosaic.Pipeline (Dat)

variable (m : (ℓ : Loc nD τ sig) → Buf (Elt Ideal) ℓ)

/-- The reference's result over the kernel's argument arrays. -/
def RES (c : Dev nD) : FVec Ideal S33280x1024 .f32 :=
  Cert.ReferenceOddIdeal.Read.val_main_v33 (F := Ideal)
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))

/-- What the kernel leaves at row `r` of tile `t` is the reference's value there. -/
theorem point (c : Dev nD) (t : Fin cfg0.N) (r : Fin 640) (j : Fin 1024) :
    outsAt0 m c t (ix2 r j) = RES m c (ix2 (OddHost.src t r) j) := by
  rw [OddOut.out_at]
  unfold RES
  rw [OddRef.row_at]
  simp only [OddHost.blk0, OddHost.blk1, OddHost.blk2, OddHost.blk3, OddHost.blk4, OddHost.blk5]

/-- The element of the result that a tile places an index at. -/
theorem emb6 (t : Fin cfg0.N) (y : S640x1024.Idx) (a : Fin 2) :
    ((((View.whole main_v5).slice (win0_6.rect t)).emb y) a : ℕ) = win0_6.index t a * S640x1024.size a + (y a : ℕ) := by
  rw [View.emb_slice]
  show ((win0_6.rect t).emb y a : ℕ) = _
  rw [Rect.emb_apply]
  show win0_6.index t a * S640x1024.size a + 1 * (y a : ℕ) = _
  omega

/-- The kernel's result array is the reference's. -/
theorem final (c : Dev nD) : (dats m 0 c).arrAt 6 (cfgs 0).N = RES m c := by
  refine (dats m 0 c).arrAt_eq_of_covers 6 _ (by decide +kernel) fun t _ y => ?_
  blk_simp
  idx_vars y
  rw [after0_6, point]
  refine congrArg (RES m c) (funext fun a => Fin.ext ?_)
  have h := emb6 t (ix2 y0 y1) a
  rw [(OddHost.idx t).2.2.2.2.2.2.1] at h
  refine Eq.trans ?_ h.symm
  fin_cases a
  · rfl
  · exact (Nat.zero_add _).symm

end Cert.OddValue

end
-- ==== Proof.FirstKernel.lean ====
module

public import proofs.«01_k».proof.Proof.Gen.KernelFirstIdeal.Skeleton
public import proofs.«01_k».proof.Proof.FfnSpec

@[expose] public section

set_option maxRecDepth 16384

noncomputable section

namespace Cert.FirstKernel

open Cert.KernelFirstIdeal Cert.KernelFirstIdeal.Gen
open Idealize.ShloMosaic Idealize.ShloMosaic.TcCoe Idealize.SL.Sem Cert.FfnSpec

variable (i : grid0.Coords) (x0 x6 : FVec Ideal S640x1024 .f32) (x1 x2 : FVec Ideal S1x1024 .f32) (x5 : FVec Ideal S2816x1024 .bf16)

/-- Which tiles are the first of a sequence, as the kernel's words say it. -/
theorem lead_iff : ∀ n : Fin 52, (Scalar.cmpi .eq (Scalar.select (Scalar.andi (Scalar.xori
    (Scalar.cmpi .slt (Scalar.remsi (BitVec.ofNat 32 n.val) (Scalar.select (Scalar.cmpi .eq 13#32 0#32) 1#32 13#32)) 0#32)
    (Scalar.cmpi .slt (Scalar.select (Scalar.cmpi .eq 13#32 0#32) 1#32 13#32) 0#32))
    (Scalar.cmpi .ne (Scalar.remsi (BitVec.ofNat 32 n.val) (Scalar.select (Scalar.cmpi .eq 13#32 0#32) 1#32 13#32)) 0#32))
    (Scalar.addi (Scalar.remsi (BitVec.ofNat 32 n.val) (Scalar.select (Scalar.cmpi .eq 13#32 0#32) 1#32 13#32)) (Scalar.select (Scalar.cmpi .eq 13#32 0#32) 1#32 13#32))
    (Scalar.remsi (BitVec.ofNat 32 n.val) (Scalar.select (Scalar.cmpi .eq 13#32 0#32) 1#32 13#32))) 0#32 : BitVec 1)
      = if n.val % 13 = 0 then 1#1 else 0#1 := by
  decide +kernel

/-- The tile's rows: the leading rows in a sequence's first tile, the stream's elsewhere. -/
theorem sel_at (n : Fin 52) (h : (i 0).val = n.val) (r : Fin 640) (j : Fin 1024) :
    k0_pay2 (F := Ideal) i x0 x6 (ix2 r j) = if n.val % 13 = 0 then x6 (ix2 r j) else x0 (ix2 r j) := by
  unfold k0_pay2
  dsimp only
  rw [h, lead_iff]
  split_ifs
  · pointwise []
  · pointwise []

/-- The tile's normalised row in front of the gate. -/
theorem pre_at (v : FVec Ideal S640x1024 .f32) (h : v = k0_pay2 (F := Ideal) i x0 x6) (r : Fin 640) (j : Fin 1024) :
    k0_pay3 (F := Ideal) i x0 x6 x1 (ix2 r j) = rms (fun k => v (ix2 r k)) (fun k => x1 (ix2 0 k)) j := by
  subst h
  generalize hv : k0_pay2 (F := Ideal) i x0 x6 = v
  pointwise [k0_pay3, hv, rms]

/-- The tile's result from its rows and its hidden units. -/
theorem close_at (v : FVec Ideal S640x1024 .f32) (p : FVec Ideal S640x2816 .bf16) (r : Fin 640) (j : Fin 1024) :
    k0_pay1 (F := Ideal) v (k0_pay20 p x5 x2) (ix2 r j)
      = close (fun k => v (ix2 r k)) (down (fun f => p (ix2 r f)) (fun f k => x5 (ix2 f k))) (fun k => x2 (ix2 0 k)) j := by
  pointwise [k0_pay1, k0_pay20, close, down, rms]

end Cert.FirstKernel

end
-- ==== Proof.FirstOut.lean ====
module

public import proofs.«01_k».proof.Proof.Gen.KernelFirstIdeal.Value
public import proofs.«01_k».proof.Proof.FirstKernel
public import Idealize.ShloMosaic.Lib.Pipeline.ValueKit

@[expose] public section

set_option maxRecDepth 16384

noncomputable section

namespace Cert.FirstOut

open Cert.KernelFirstIdeal Cert.KernelFirstIdeal.Gen
open Idealize.ShloMosaic Idealize.ShloMosaic.TcCoe Idealize.SL.Sem
open Idealize.ShloMosaic.Pipeline (Dat)

variable (m : (ℓ : Loc nD τ sig) → Buf (Elt Ideal) ℓ)

/-- Entry `(a, b)` of the tile of columns from `o` is entry `(a, o + b)` of the hidden block. -/
theorem emb_cols (o : ℕ) (h : o + 256 ≤ 2816) (hin : _) (a : Fin 640) (b : Fin 256) :
    (Rect.unit (s := S640x2816) ![0, o] ![640, 256] hin).emb (ix2 a b) = ix2 a ⟨o + b.val, by omega⟩ := by
  funext i
  fin_cases i
  · apply Fin.ext; show 0 + 1 * a.val = a.val; omega
  · apply Fin.ext; show o + 1 * b.val = o + b.val; omega

/-- The rows that the body works on: the leading rows in a sequence's first tile, the stream's elsewhere. -/
def rowsOf (c : Dev nD) (t : Fin cfg0.N) (r : Fin 640) (k : Fin 1024) : EReal :=
  if t.val % 13 = 0 then (iblk m c 6 t : FVec Ideal S640x1024 .f32) (ix2 r k) else (iblk m c 0 t : FVec Ideal S640x1024 .f32) (ix2 r k)

/-- What the body leaves in the output's block, row by row: the row function of the block's rows. -/
theorem out_at (c : Dev nD) (t : Fin cfg0.N) (r : Fin 640) (j : Fin 1024) :
    outsAt0 m c t (ix2 r j)
      = FfnSpec.plain (rowsOf m c t r) (fun k => (iblk m c 1 t : FVec Ideal S1x1024 .f32) (ix2 0 k)) (fun k => (iblk m c 2 t : FVec Ideal S1x1024 .f32) (ix2 0 k))
          (fun k f => (iblk m c 3 t : FVec Ideal S1024x2816 .bf16) (ix2 k f)) (fun k f => (iblk m c 4 t : FVec Ideal S1024x2816 .bf16) (ix2 k f))
          (fun f k => (iblk m c 5 t : FVec Ideal S2816x1024 .bf16) (ix2 f k)) j := by
  have hc : ∀ t : Fin cfg0.N, ((grid0.coords t) 0).val = t.val := (by decide +kernel : ∀ t : Fin grid0.N, _)
  have hx := fun (r : Fin 640) (j : Fin 1024) => FirstKernel.sel_at (grid0.coords t) (iblk m c 0 t) (iblk m c 6 t) ⟨t.val, t.isLt⟩ (hc t) r j
  have hz := fun (r : Fin 640) (j : Fin 1024) => FirstKernel.pre_at (grid0.coords t) (iblk m c 0 t) (iblk m c 6 t) (iblk m c 1 t) _ rfl r j
  unfold outsAt0
  frame_out
  generalize k0_pay3 (F := Ideal) (grid0.coords t) (iblk m c 0 t) (iblk m c 6 t) (iblk m c 1 t) = u at *
  generalize k0_pay2 (F := Ideal) (grid0.coords t) (iblk m c 0 t) (iblk m c 6 t) = v at *
  have hx' : (fun k => v (ix2 r k)) = rowsOf m c t r := funext (hx r)
  rw [View.readCov_eq_canon_ld]
  rotate_left
  · exact fun y => View.cover_of_tiledL _ (![640, 256] : Fin S640x2816.rank → ℕ) (by sl_kernel_rfl) y
  rw [View.ld_unit_zero (by funext a; fin_cases a <;> rfl), FirstKernel.close_at]
  unfold FfnSpec.plain
  have hz' := funext (hz r)
  rw [hx'] at hz' ⊢
  congr 2
  funext f
  refine (View.canon_apply_of_pieces (Val := Elt Ideal) (S := S640x2816) (e := .bf16) (fun y => FfnSpec.act (fun k => u (ix2 (y 0) k))
    (fun k => (iblk m c 3 t : FVec Ideal S1024x2816 .bf16) (ix2 k (y 1))) (fun k => (iblk m c 4 t : FVec Ideal S1024x2816 .bf16) (ix2 k (y 1)))) _ ?_ _
    ?_).trans ?_
  rotate_left
  · exact View.cover_of_tiledL _ (![640, 256] : Fin S640x2816.rank → ℕ) (by sl_kernel_rfl) _
  · rw [← hz']
    rfl
  clear hx hx' hz hz'
  repeat' (first | exact List.forall_mem_nil _ | refine List.forall_mem_cons.2 ⟨?_, ?_⟩)
  all_goals (intro (x : S640x256.Idx); idx_vars x)
  all_goals
    rw [emb_cols _ (by decide)]
    pointwise [k0_pay4, k0_pay5, k0_pay6, k0_pay7, k0_pay8, k0_pay9, k0_pay10, k0_pay11, k0_pay12, k0_pay13, k0_pay14, k0_pay15, k0_pay16, k0_pay17, k0_pay18, k0_pay19, FfnSpec.act]

end Cert.FirstOut

end
-- ==== Proof.FirstHost.lean ====
module

public import proofs.«01_k».proof.Proof.Gen.KernelFirstIdeal.Frame
public import proofs.«01_k».proof.Proof.FfnSpec
public import Idealize.ShloMosaic.Lib.Pipeline.ValueKit

@[expose] public section

set_option maxRecDepth 16384

noncomputable section

namespace Cert.FirstHost

open Cert.KernelFirstIdeal Cert.KernelFirstIdeal.Gen
open Idealize.ShloMosaic Idealize.ShloMosaic.TcCoe Idealize.SL.Sem
open Idealize.ShloMosaic.Pipeline (Dat)

variable (m : (ℓ : Loc nD τ sig) → Buf (Elt Ideal) ℓ)

/-- The windows' index maps at every grid point. -/
theorem idx : ∀ t : Fin cfg0.N, win0_0.index t = ![128 * (t.val / 13 * 64 + (t.val % 13 * 5 - 1)), 0]
    ∧ win0_1.index t = ![0, 0] ∧ win0_2.index t = ![0, 0] ∧ win0_3.index t = ![0, 0] ∧ win0_4.index t = ![0, 0]
    ∧ win0_5.index t = ![0, 0] ∧ win0_6.index t = ![t.val / 13, 0] ∧ win0_7.index t = ![t.val, 0] ∧ t.val < 52 :=
  (by decide +kernel : ∀ t : Fin grid0.N, _)

/-- The array row that row `r` of tile `t` is written to. -/
abbrev src (t : Fin cfg0.N) (r : Fin 640) : Fin 33280 :=
  ⟨t.val * 640 + r.val, by have := (idx t).2.2.2.2.2.2.2.2; omega⟩

/-- The element of its array that a tile of the tokens places an index at. -/
theorem emb0 (t : Fin cfg0.N) (y : S640x1024.Idx) (a : Fin 2) :
    ((((View.whole main_v5).slice (win0_0.rect t)).emb y) a : ℕ) = win0_0.index t a + (y a : ℕ) := by
  rw [View.emb_slice]
  show ((win0_0.rect t).emb y a : ℕ) = _
  rw [Rect.emb_apply]
  show win0_0.index t a + 1 * (y a : ℕ) = _
  omega

/-- The tokens' tile, where it isn't a sequence's first. -/
theorem blk0 (c : Dev nD) (t : Fin cfg0.N) (h : t.val % 13 ≠ 0) (r : Fin 640) (k : Fin 1024) :
    (iblk m c 0 t : FVec Ideal S640x1024 .f32) (ix2 r k) = m ((c : Thread nD τ).loc main_arg0)
      (ix3 (⟨t.val / 13, by have := (idx t).2.2.2.2.2.2.2.2; omega⟩ : Fin 4) (⟨t.val % 13 * 640 + r.val - 128, by omega⟩ : Fin 8192) k) := by
  have e0 := emb0 t (ix2 r k) 0
  have e1 := emb0 t (ix2 r k) 1
  rw [(idx t).1] at e0 e1
  replace e0 : _ = 128 * (t.val / 13 * 64 + (t.val % 13 * 5 - 1)) + r.val := e0
  replace e1 : _ = 0 + k.val := e1
  blk_point [iblk, V, idx t]

/-- The gain in front of the gate. -/
theorem blk1 (c : Dev nD) (t : Fin cfg0.N) (k : Fin 1024) :
    (iblk m c 1 t : FVec Ideal S1x1024 .f32) (ix2 0 k) = m ((c : Thread nD τ).loc main_arg2) (ix1 k) := by
  blk_point [iblk, V, idx t]

/-- The closing gain. -/
theorem blk2 (c : Dev nD) (t : Fin cfg0.N) (k : Fin 1024) :
    (iblk m c 2 t : FVec Ideal S1x1024 .f32) (ix2 0 k) = m ((c : Thread nD τ).loc main_arg3) (ix1 k) := by
  blk_point [iblk, V, idx t]

/-- The gate's weights. -/
theorem blk3 (c : Dev nD) (t : Fin cfg0.N) (k : Fin 1024) (f : Fin 2816) :
    (iblk m c 3 t : FVec Ideal S1024x2816 .bf16) (ix2 k f) = m ((c : Thread nD τ).loc main_arg4) (ix2 k f) := by
  blk_point [iblk, V, idx t]

/-- The up projection's weights. -/
theorem blk4 (c : Dev nD) (t : Fin cfg0.N) (k : Fin 1024) (f : Fin 2816) :
    (iblk m c 4 t : FVec Ideal S1024x2816 .bf16) (ix2 k f) = m ((c : Thread nD τ).loc main_arg5) (ix2 k f) := by
  blk_point [iblk, V, idx t]

/-- The down projection's weights. -/
theorem blk5 (c : Dev nD) (t : Fin cfg0.N) (f : Fin 2816) (k : Fin 1024) :
    (iblk m c 5 t : FVec Ideal S2816x1024 .bf16) (ix2 f k) = m ((c : Thread nD τ).loc main_arg6) (ix2 f k) := by
  blk_point [iblk, V, idx t]

end Cert.FirstHost

end
-- ==== Proof.FirstRef.lean ====
module

public import proofs.«01_k».proof.Proof.Gen.ReferenceFirstIdeal.Read
public import proofs.«01_k».proof.Proof.FfnSpec

@[expose] public section

set_option maxRecDepth 16384

noncomputable section

namespace Cert.FirstRef

open Cert.ReferenceFirstIdeal Cert.ReferenceFirstIdeal.Gen Cert.ReferenceFirstIdeal.Read
open Idealize.ShloMosaic Idealize.ShloMosaic.TcCoe Idealize.SL.Sem Cert.FfnSpec

variable (x0 : FVec Ideal S4x8192x1024 .f32) (x1 : FVec Ideal S16x1024 .f32) (x2 x3 : FVec Ideal S1024 .f32)
  (x4 x5 : FVec Ideal S1024x2816 .f32) (x6 : FVec Ideal S2816x1024 .f32)

/-- Position `r` of sequence `b`: empty, a meta token or a token of the input. -/
def tok (b : Fin 4) (r : Fin 8320) (j : Fin 1024) : EReal :=
  if h : r.val < 112 then 0 else if h' : r.val < 128 then x1 (ix2 ⟨r.val - 112, by omega⟩ j) else x0 (ix3 b ⟨r.val - 128, by omega⟩ j)

/-- The padding's integer zero is the real zero. -/
theorem sitofp_zero : FloatOps.sitofp (F := Ideal) FTy.f32 0#32 = (0 : EReal) := by
  show (((0#32 : BitVec 32).toInt : ℝ) : EReal) = 0
  simp

/-- The reference's padded sequence with the meta tokens in front. -/
theorem tok_at (b : Fin 4) (r : Fin 8320) (j : Fin 1024) :
    val_main_v3 (F := Ideal) x0 x1 (ix3 b r j) = tok x0 x1 b r j := by
  unfold tok
  split_ifs with h h'
  · pointwise [val_main_v3, val_main_call0_v0, val_main_c, val_main_v2, val_main_v1, val_main_v0]
    rw [dif_neg (by omega)]
    exact sitofp_zero
  · pointwise [val_main_v3, val_main_call0_v0, val_main_c, val_main_v2, val_main_v1, val_main_v0]
    rw [dif_pos (by omega), dif_pos (by omega)]
  · pointwise [val_main_v3, val_main_call0_v0, val_main_c, val_main_v2, val_main_v1, val_main_v0]
    rw [dif_pos (by omega), dif_neg (by omega)]
    exact congrArg (fun r => x0 (ix3 b r j)) (Fin.ext (Nat.sub_sub _ 112 16))

/-- The reference's normalised row in front of the gate. -/
theorem pre_at (b : Fin 4) (r : Fin 8320) (j : Fin 1024) :
    val_main_v16 (F := Ideal) x0 x1 x2 (ix3 b r j)
      = rms (fun k => val_main_v3 (F := Ideal) x0 x1 (ix3 b r k)) (fun k => x2 (ix1 k)) j := by
  pointwise [val_main_v16, val_main_v15, val_main_v14, val_main_v13, val_main_v12, val_main_v11, val_main_v10, val_main_v9, val_main_v8, val_main_v7, val_main_v6, val_main_v5, val_main_v4, val_main_cst, val_main_cst_0, val_main_cst_1, rms]

/-- The reference's gated hidden unit. -/
theorem act_at (b : Fin 4) (r : Fin 8320) (f : Fin 2816) :
    val_main_v20 (F := Ideal) x0 x1 x2 x4 x5 (ix3 b r f)
      = act (fun k => val_main_v16 (F := Ideal) x0 x1 x2 (ix3 b r k)) (fun k => x4 (ix2 k f)) (fun k => x5 (ix2 k f)) := by
  pointwise [val_main_v20, val_main_v19, val_main_v18, val_main_v17, val_main_call1_v5, val_main_call1_v4, val_main_call1_v3, val_main_call1_v2, val_main_call1_v1, val_main_call1_v0, val_main_call1_cst, val_main_call1_cst_0,
    act, Ideal.logistic]

/-- The reference's result before the final reshape. -/
theorem close_at (b : Fin 4) (r : Fin 8320) (j : Fin 1024) :
    val_main_v37 (F := Ideal) x0 x1 x2 x3 x4 x5 x6 (ix3 b r j)
      = close (fun k => val_main_v3 (F := Ideal) x0 x1 (ix3 b r k))
          (down (fun f => val_main_v20 (F := Ideal) x0 x1 x2 x4 x5 (ix3 b r f)) (fun f k => x6 (ix2 f k)))
          (fun k => x3 (ix1 k)) j := by
  pointwise [val_main_v37, val_main_v36, val_main_v35, val_main_v34, val_main_v33, val_main_v32, val_main_v31, val_main_v30, val_main_v29, val_main_v28, val_main_v27, val_main_v26, val_main_v25, val_main_v24, val_main_v23, val_main_v22, val_main_v21, val_main_cst_2, val_main_cst_3, val_main_cst_4, val_main_cst_5, close, down, rms]

/-- The reference's result at position `r` of sequence `b` is the row function of the row it reads. -/
theorem row_at (b : Fin 4) (r : Fin 8320) (j : Fin 1024) :
    val_main_v37 (F := Ideal) x0 x1 x2 x3 x4 x5 x6 (ix3 b r j)
      = plain (tok x0 x1 b r) (fun k => x2 (ix1 k)) (fun k => x3 (ix1 k))
          (fun k f => x4 (ix2 k f)) (fun k f => x5 (ix2 k f)) (fun f k => x6 (ix2 f k)) j := by
  rw [close_at]
  simp only [act_at, pre_at, tok_at]
  rfl

/-- The reference's result array, read at row `n`. -/
theorem res_at (n : Fin 33280) (j : Fin 1024) :
    val_main_v38 (F := Ideal) x0 x1 x2 x3 x4 x5 x6 (ix2 n j)
      = val_main_v37 (F := Ideal) x0 x1 x2 x3 x4 x5 x6
          (ix3 (⟨n.val / 8320, by omega⟩ : Fin 4) (⟨n.val % 8320, by omega⟩ : Fin 8320) j) := by
  pointwise [val_main_v38]

end Cert.FirstRef

end
-- ==== Proof.FirstLead.lean ====
module

public import proofs.«01_k».proof.Proof.Gen.KernelFirstIdeal.Frame
public import proofs.«01_k».proof.Proof.FirstHost
public import proofs.«01_k».proof.Proof.FirstRef
public import Idealize.ShloMosaic.Lib.Pipeline.ValueKit

@[expose] public section

set_option maxRecDepth 16384

noncomputable section

namespace Cert.FirstLead

open Cert.KernelFirstIdeal Cert.KernelFirstIdeal.Gen
open Idealize.ShloMosaic Idealize.ShloMosaic.TcCoe Idealize.SL.Sem
open Idealize.ShloMosaic.Pipeline (Dat)

variable (m : (ℓ : Loc nD τ sig) → Buf (Elt Ideal) ℓ)

/-- A three-way concatenation's operands, each at its own reference. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (StableHlo.nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- The host's leading rows as the operations on the arguments make them. -/
theorem lead_entry (c : Dev nD) : (V m c main_v6 : FVec Ideal S2560x1024 .f32) = shapeCast S2560x1024
    (concatenate S4x640x1024 1 [⟨S4x112x1024, (broadcastInDim S4x112x1024 ![] bcast_S_S4x112x1024 (constant (F := Ideal) S_ .f32 0x00000000#32) : FVec Ideal S4x112x1024 .f32)⟩,
      ⟨S4x16x1024, (broadcastInDim S4x16x1024 ![0, 1, 2] bcast_S1x16x1024_S4x16x1024_0_1_2
        (broadcastInDim S1x16x1024 ![1, 2] bcast_S16x1024_S1x16x1024_1_2 (m ((c : Thread nD τ).loc main_arg1) : FVec Ideal S16x1024 .f32)) : FVec Ideal S4x16x1024 .f32)⟩,
      ⟨S4x512x1024, (extractStridedSlice S4x512x1024 ![0, 0, 0] (m ((c : Thread nD τ).loc main_arg0) : FVec Ideal S4x8192x1024 .f32) slices_S4x8192x1024_S4x512x1024_0_0_0 : FVec Ideal S4x512x1024 .f32)⟩]
      concatenates_S4x112x1024_S4x16x1024_S4x512x1024_S4x640x1024_d1 : FVec Ideal S4x640x1024 .f32)
    shapeCasts_S4x640x1024_S2560x1024 := by
  unfold V hostOps0
  simp (disch := decide) only [StableHlo.after_cons, StableHlo.after_nil, StableHlo.nullary_result', StableHlo.unary_result',
    StableHlo.reshape_result', nary3_result, StableHlo.nullary_result_ne', StableHlo.unary_result_ne', StableHlo.reshape_result_ne',
    StableHlo.nary_result_ne']
  rfl

/-- The host's leading rows of each sequence: empty rows, the meta tokens, the first tokens. -/
theorem lead_at (c : Dev nD) (b : Fin 4) (r : Fin 640) (k : Fin 1024) :
    (V m c main_v6 : FVec Ideal S2560x1024 .f32) (ix2 (⟨b.val * 640 + r.val, by omega⟩ : Fin 2560) k)
      = FirstRef.tok (m ((c : Thread nD τ).loc main_arg0)) (m ((c : Thread nD τ).loc main_arg1)) b ⟨r.val, by omega⟩ k := by
  rw [lead_entry]
  generalize m ((c : Thread nD τ).loc main_arg0) = x
  generalize m ((c : Thread nD τ).loc main_arg1) = y
  pointwise
  unfold FirstRef.tok
  by_cases h : r.val < 112
  · rw [dif_pos h, dif_pos h]
  · by_cases h' : r.val < 128
    · rw [dif_neg h, dif_pos (by omega), dif_neg h, dif_pos h']
    · rw [dif_neg h, dif_neg (by omega), dif_neg h, dif_neg h']
      exact congrArg (fun r => (x : FVec Ideal S4x8192x1024 .f32) (ix3 b r k)) (Fin.ext (Nat.sub_sub _ 112 16))

/-- The leading rows' tile. -/
theorem blk6 (c : Dev nD) (t : Fin cfg0.N) (r : Fin 640) (k : Fin 1024) :
    (iblk m c 6 t : FVec Ideal S640x1024 .f32) (ix2 r k)
      = FirstRef.tok (m ((c : Thread nD τ).loc main_arg0)) (m ((c : Thread nD τ).loc main_arg1))
          ⟨t.val / 13, by have := (FirstHost.idx t).2.2.2.2.2.2.2.2; omega⟩ ⟨r.val, by omega⟩ k := by
  rw [← lead_at m c ⟨t.val / 13, by have := (FirstHost.idx t).2.2.2.2.2.2.2.2; omega⟩ r k]
  blk_ext [iblk, FirstHost.idx t]

end Cert.FirstLead

end
-- ==== Proof.FirstValue.lean ====
module

public import proofs.«01_k».proof.Proof.FirstOut
public import proofs.«01_k».proof.Proof.FirstLead
public import proofs.«01_k».proof.Proof.FirstRef
public import Idealize.ShloMosaic.Lib.Pipeline.ValueKit

@[expose] public section

set_option maxRecDepth 16384

noncomputable section

namespace Cert.FirstValue

open Cert.KernelFirstIdeal Cert.KernelFirstIdeal.Gen
open Idealize.ShloMosaic Idealize.ShloMosaic.TcCoe Idealize.SL.Sem
open Idealize.ShloMosaic.Pipeline (Dat)

variable (m : (ℓ : Loc nD τ sig) → Buf (Elt Ideal) ℓ)

/-- The reference's result over the kernel's argument arrays. -/
def RES (c : Dev nD) : FVec Ideal S33280x1024 .f32 :=
  Cert.ReferenceFirstIdeal.Read.val_main_v38 (F := Ideal)
    (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))

/-- The rows that a tile works on are the padded sequence's. -/
theorem rows_eq (c : Dev nD) (t : Fin cfg0.N) (r : Fin 640) :
    FirstOut.rowsOf m c t r = FirstRef.tok (m ((c : Thread nD τ).loc main_arg0)) (m ((c : Thread nD τ).loc main_arg1))
      ⟨(FirstHost.src t r).val / 8320, by omega⟩ ⟨(FirstHost.src t r).val % 8320, by omega⟩ := by
  have hb : (FirstHost.src t r).val / 8320 = t.val / 13 := by show (t.val * 640 + r.val) / 8320 = _; omega
  have hr : (FirstHost.src t r).val % 8320 = t.val % 13 * 640 + r.val := by show (t.val * 640 + r.val) % 8320 = _; omega
  funext k
  unfold FirstOut.rowsOf
  split_ifs with h
  · rw [FirstLead.blk6]
    simp only [hb, hr, h, Nat.zero_mul, Nat.zero_add]
  · rw [FirstHost.blk0 m c t h]
    simp only [hb, hr]
    unfold FirstRef.tok
    rw [dif_neg (by show ¬ (t.val % 13 * 640 + r.val < 112); omega), dif_neg (by show ¬ (t.val % 13 * 640 + r.val < 128); omega)]

/-- What the kernel leaves at row `r` of tile `t` is the reference's value there. -/
theorem point (c : Dev nD) (t : Fin cfg0.N) (r : Fin 640) (j : Fin 1024) :
    outsAt0 m c t (ix2 r j) = RES m c (ix2 (FirstHost.src t r) j) := by
  rw [FirstOut.out_at]
  unfold RES
  rw [FirstRef.res_at, FirstRef.row_at, rows_eq]
  simp only [FirstHost.blk1, FirstHost.blk2, FirstHost.blk3, FirstHost.blk4, FirstHost.blk5]

/-- The element of the result that a tile places an index at. -/
theorem emb7 (t : Fin cfg0.N) (y : S640x1024.Idx) (a : Fin 2) :
    ((((View.whole main_v12).slice (win0_7.rect t)).emb y) a : ℕ) = win0_7.index t a * S640x1024.size a + (y a : ℕ) := by
  rw [View.emb_slice]
  show ((win0_7.rect t).emb y a : ℕ) = _
  rw [Rect.emb_apply]
  show win0_7.index t a * S640x1024.size a + 1 * (y a : ℕ) = _
  omega

/-- The kernel's result array is the reference's. -/
theorem final (c : Dev nD) : (dats m 0 c).arrAt 7 (cfgs 0).N = RES m c := by
  refine (dats m 0 c).arrAt_eq_of_covers 7 _ (by decide +kernel) fun t _ y => ?_
  blk_simp
  idx_vars y
  rw [after0_7, point]
  refine congrArg (RES m c) (funext fun a => Fin.ext ?_)
  have h := emb7 t (ix2 y0 y1) a
  rw [(FirstHost.idx t).2.2.2.2.2.2.2.1] at h
  refine Eq.trans ?_ h.symm
  fin_cases a
  · rfl
  · exact (Nat.zero_add _).symm

end Cert.FirstValue

end
-- ==== Proof.ProjOut.lean ====
module

public import proofs.«01_k».proof.Proof.Gen.KernelProjIdeal.Value
public import proofs.«01_k».proof.Proof.FfnSpec
public import Idealize.ShloMosaic.Lib.Pipeline.ValueKit

@[expose] public section

set_option maxRecDepth 16384

noncomputable section

namespace Cert.ProjOut

open Cert.KernelProjIdeal Cert.KernelProjIdeal.Gen
open Idealize.ShloMosaic Idealize.ShloMosaic.TcCoe Idealize.SL.Sem
open Idealize.ShloMosaic.Pipeline (Dat)

variable (m : (ℓ : Loc nD τ sig) → Buf (Elt Ideal) ℓ)

/-- The tile's normalised row. -/
theorem pre_at (x0 : FVec Ideal S640x1024 .f32) (x1 : FVec Ideal S1x1024 .f32) (r : Fin 640) (j : Fin 1024) :
    k0_pay1 (F := Ideal) x0 x1 (ix2 r j) = FfnSpec.rms (fun k => x0 (ix2 r k)) (fun k => x1 (ix2 0 k)) j := by
  pointwise [k0_pay1, FfnSpec.rms]

/-- Entry `(a, b)` of the tile of columns from `o` is entry `(a, o + b)` of the block. -/
theorem emb_cols (o : ℕ) (h : o + 256 ≤ 2304) (hin : _) (a : Fin 640) (b : Fin 256) :
    (Rect.unit (s := S640x2304) ![0, o] ![640, 256] hin).emb (ix2 a b) = ix2 a ⟨o + b.val, by omega⟩ := by
  funext i
  fin_cases i
  · apply Fin.ext; show 0 + 1 * a.val = a.val; omega
  · apply Fin.ext; show o + 1 * b.val = o + b.val; omega

/-- What the body leaves in the output's block: the normalised row against each column. -/
theorem out_at (h : FVec Ideal S640x1024 .f32) (g : FVec Ideal S1x1024 .f32) (w : FVec Ideal S1024x2304 .bf16) (r : Fin 640) (f : Fin 2304) :
    out0_3 (F := Ideal) h g w (ix2 r f)
      = ∑ k : Fin 1024, FfnSpec.rms (fun k => h (ix2 r k)) (fun k => g (ix2 0 k)) k * w (ix2 k f) := by
  have hz := funext (pre_at h g r)
  unfold out0_3 k0_pay11
  rw [View.ld_unit_zero (S := S640x1024) (by funext a; fin_cases a <;> rfl), View.ld_unit_zero (S := S1x1024) (by funext a; fin_cases a <;> rfl)]
  refine (View.canon_apply_of_pieces (Val := Elt Ideal) (S := S640x2304) (e := .bf16) (fun y => ∑ k : Fin 1024, k0_pay1 (F := Ideal) h g (ix2 (y 0) k) * w (ix2 k (y 1))) _ ?_ _
    ?_).trans ?_
  rotate_left
  · exact View.cover_of_tiledL _ (![640, 256] : Fin S640x2304.rank → ℕ) (by sl_kernel_rfl) _
  · rw [← hz]
    rfl
  clear hz
  repeat' (first | exact List.forall_mem_nil _ | refine List.forall_mem_cons.2 ⟨?_, ?_⟩)
  all_goals (intro (x : S640x256.Idx); idx_vars x)
  all_goals
    rw [emb_cols _ (by decide)]
    first
      | unfold k0_pay2
      | unfold k0_pay3
      | unfold k0_pay4
      | unfold k0_pay5
      | unfold k0_pay6
      | unfold k0_pay7
      | unfold k0_pay8
      | unfold k0_pay9
      | unfold k0_pay10
    generalize k0_pay1 (F := Ideal) h g = u
    pointwise []

end Cert.ProjOut

end
-- ==== Proof.ProjRef.lean ====
module

public import proofs.«01_k».proof.Proof.Gen.ReferenceProjIdeal.Read
public import proofs.«01_k».proof.Proof.FfnSpec

@[expose] public section

set_option maxRecDepth 16384

noncomputable section

namespace Cert.ProjRef

open Cert.ReferenceProjIdeal Cert.ReferenceProjIdeal.Gen Cert.ReferenceProjIdeal.Read
open Idealize.ShloMosaic Idealize.ShloMosaic.TcCoe Idealize.SL.Sem Cert.FfnSpec

variable (x0 : FVec Ideal S33280x1024 .f32) (x1 : FVec Ideal S1024 .f32) (x2 : FVec Ideal S1024x2304 .f32)

/-- The column of the weights that column `f` of the result comes from: the queries' heads regrouped, the others as they are. -/
def col (f : Fin 2304) : Fin 2304 :=
  if f.val < 512 then ⟨(f.val % 128 / 64 * 256 + f.val / 128 * 64 + f.val % 64) % 2304, by omega⟩ else f

/-- The reference's normalised row. -/
theorem pre_at (n : Fin 33280) (j : Fin 1024) :
    val_main_v12 (F := Ideal) x0 x1 (ix2 n j) = rms (fun k => x0 (ix2 n k)) (fun k => x1 (ix1 k)) j := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, rms]

/-- The reference's projection before the regrouping. -/
theorem dot_at (n : Fin 33280) (f : Fin 2304) :
    val_main_v13 (F := Ideal) x0 x1 x2 (ix2 n f) = ∑ k : Fin 1024, val_main_v12 (F := Ideal) x0 x1 (ix2 n k) * x2 (ix2 k f) := by
  pointwise [val_main_v13]

/-- The reference's result, read at an index. -/
theorem regroup_at (n : Fin 33280) (f : Fin 2304) :
    val_main_v20 (F := Ideal) x0 x1 x2 (ix2 n f) = val_main_v13 (F := Ideal) x0 x1 x2 (ix2 n (col f)) := by
  unfold col
  split_ifs with h
  · pointwise [val_main_v20, val_main_v19, val_main_v18, val_main_v17, val_main_v16, val_main_v15, val_main_v14]
    rw [dif_pos h]
    have e1 : f.val / 64 % 2 = f.val % 128 / 64 := by omega
    have e2 : f.val % 128 / 64 * 256 + f.val / 128 * 64 + f.val % 64 < 2304 := by omega
    exact congrArg (fun f => val_main_v13 (F := Ideal) x0 x1 x2 (ix2 n f)) (Fin.ext (by
      dsimp only
      rw [Nat.mod_eq_of_lt e2, e1]))
  · pointwise [val_main_v20, val_main_v19, val_main_v18, val_main_v17, val_main_v16, val_main_v15, val_main_v14]
    rw [dif_neg h]
    exact congrArg (fun f => val_main_v13 (F := Ideal) x0 x1 x2 (ix2 n f)) (Fin.ext (by dsimp only; omega))

/-- The reference's result, from the row and the column that it reads. -/
theorem row_at (n : Fin 33280) (f : Fin 2304) :
    val_main_v20 (F := Ideal) x0 x1 x2 (ix2 n f)
      = ∑ k : Fin 1024, rms (fun k => x0 (ix2 n k)) (fun k => x1 (ix1 k)) k * x2 (ix2 k (col f)) := by
  rw [regroup_at, dot_at]
  simp only [pre_at]

end Cert.ProjRef

end
-- ==== Proof.ProjHost.lean ====
module

public import proofs.«01_k».proof.Proof.Gen.KernelProjIdeal.Frame
public import proofs.«01_k».proof.Proof.ProjRef
public import Idealize.ShloMosaic.Lib.Pipeline.ValueKit

@[expose] public section

set_option maxRecDepth 16384

noncomputable section

namespace Cert.ProjHost

open Cert.KernelProjIdeal Cert.KernelProjIdeal.Gen
open Idealize.ShloMosaic Idealize.ShloMosaic.TcCoe Idealize.SL.Sem
open Idealize.ShloMosaic.Pipeline (Dat)

variable (m : (ℓ : Loc nD τ sig) → Buf (Elt Ideal) ℓ)

/-- The windows' index maps at every grid point. -/
theorem idx : ∀ t : Fin cfg0.N, win0_0.index t = ![t.val, 0] ∧ win0_1.index t = ![0, 0] ∧ win0_2.index t = ![0, 0]
    ∧ win0_3.index t = ![t.val, 0] ∧ t.val < 52 :=
  (by decide +kernel : ∀ t : Fin grid0.N, _)

/-- The array row that row `r` of tile `t` is read from. -/
abbrev src (t : Fin cfg0.N) (r : Fin 640) : Fin 33280 :=
  ⟨t.val * 640 + r.val, by have := (idx t).2.2.2.2; omega⟩

/-- The residual stream's tile. -/
theorem blk0 (c : Dev nD) (t : Fin cfg0.N) (r : Fin 640) (k : Fin 1024) :
    (iblk m c 0 t : FVec Ideal S640x1024 .f32) (ix2 r k) = m ((c : Thread nD τ).loc main_arg0) (ix2 (src t r) k) := by
  blk_point [iblk, V, idx t]

/-- The gain. -/
theorem blk1 (c : Dev nD) (t : Fin cfg0.N) (k : Fin 1024) :
    (iblk m c 1 t : FVec Ideal S1x1024 .f32) (ix2 0 k) = m ((c : Thread nD τ).loc main_arg1) (ix1 k) := by
  blk_point [iblk, V, idx t]

/-- The host's weights: the queries' columns regrouped, the others as they are. -/
theorem weights_at (c : Dev nD) (k : Fin 1024) (f : Fin 2304) :
    (V m c main_v6 : FVec Ideal S1024x2304 .bf16) (ix2 k f) = m ((c : Thread nD τ).loc main_arg2) (ix2 k (ProjRef.col f)) := by
  unfold ProjRef.col
  entry_read
  split_ifs with h
  · pointwise
    rw [dif_pos h]
    have e1 : f.val / 64 % 2 = f.val % 128 / 64 := by omega
    have e2 : f.val % 128 / 64 * 256 + f.val / 128 * 64 + f.val % 64 < 2304 := by omega
    exact congrArg (fun f => m ((c : Thread nD τ).loc main_arg2) (ix2 k f)) (Fin.ext (by
      dsimp only
      rw [Nat.mod_eq_of_lt e2, e1]))
  · pointwise
    rw [dif_neg h]
    exact congrArg (fun f => m ((c : Thread nD τ).loc main_arg2) (ix2 k f)) (Fin.ext (by dsimp only; omega))

/-- The weights' block. -/
theorem blk2 (c : Dev nD) (t : Fin cfg0.N) (k : Fin 1024) (f : Fin 2304) :
    (iblk m c 2 t : FVec Ideal S1024x2304 .bf16) (ix2 k f) = m ((c : Thread nD τ).loc main_arg2) (ix2 k (ProjRef.col f)) := by
  rw [← weights_at m c k f]
  blk_ext [iblk, idx t]

end Cert.ProjHost

end
-- ==== Proof.ProjValue.lean ====
module

public import proofs.«01_k».proof.Proof.ProjOut
public import proofs.«01_k».proof.Proof.ProjHost
public import proofs.«01_k».proof.Proof.ProjRef
public import Idealize.ShloMosaic.Lib.Pipeline.ValueKit

@[expose] public section

set_option maxRecDepth 16384

noncomputable section

namespace Cert.ProjValue

open Cert.KernelProjIdeal Cert.KernelProjIdeal.Gen
open Idealize.ShloMosaic Idealize.ShloMosaic.TcCoe Idealize.SL.Sem
open Idealize.ShloMosaic.Pipeline (Dat)

variable (m : (ℓ : Loc nD τ sig) → Buf (Elt Ideal) ℓ)

/-- The reference's result over the kernel's argument arrays. -/
def RES (c : Dev nD) : FVec Ideal S33280x2304 .bf16 :=
  Cert.ReferenceProjIdeal.Read.val_main_v20 (F := Ideal)
    (m ((c : Thread nD τ).loc main_arg0))
    (m ((c : Thread nD τ).loc main_arg1))
    (m ((c : Thread nD τ).loc main_arg2))

/-- What the kernel leaves at row `r` of tile `t` is the reference's value there. -/
theorem point (c : Dev nD) (t : Fin cfg0.N) (r : Fin 640) (f : Fin 2304) :
    out0_3 (F := Ideal) (iblk m c 0 t) (iblk m c 1 t) (iblk m c 2 t) (ix2 r f) = RES m c (ix2 (ProjHost.src t r) f) := by
  rw [ProjOut.out_at]
  unfold RES
  rw [ProjRef.row_at]
  simp only [ProjHost.blk0, ProjHost.blk1, ProjHost.blk2]

/-- The element of the result that a tile places an index at. -/
theorem emb3 (t : Fin cfg0.N) (y : S640x2304.Idx) (a : Fin 2) :
    ((((View.whole main_v8).slice (win0_3.rect t)).emb y) a : ℕ) = win0_3.index t a * S640x2304.size a + (y a : ℕ) := by
  rw [View.emb_slice]
  show ((win0_3.rect t).emb y a : ℕ) = _
  rw [Rect.emb_apply]
  show win0_3.index t a * S640x2304.size a + 1 * (y a : ℕ) = _
  omega

/-- The kernel's result array is the reference's. -/
theorem final (c : Dev nD) : (dats m 0 c).arrAt 3 (cfgs 0).N = RES m c := by
  refine (dats m 0 c).arrAt_eq_of_covers 3 _ (by decide +kernel) fun t _ y => ?_
  blk_simp
  idx_vars y
  rw [after0_3, point]
  refine congrArg (RES m c) (funext fun a => Fin.ext ?_)
  have h := emb3 t (ix2 y0 y1) a
  rw [(ProjHost.idx t).2.2.2.1] at h
  refine Eq.trans ?_ h.symm
  fin_cases a
  · rfl
  · exact (Nat.zero_add _).symm

end Cert.ProjValue

end
-- ==== Proof.SwaPre.lean ====
module

public import proofs.«01_k».proof.Pre_finite
public import Idealize.ShloMosaic.Lib.Pointwise

@[expose] public section

set_option maxRecDepth 16384

noncomputable section

namespace Cert.SwaPre

open Cert.Pre_finite
open Idealize.ShloMosaic

/-- The shape facts the precondition's operations take. -/
theorem facts : Cert.Pre_finite.Facts where
  slices_S33280x2304_S33280x640_0_0 := by decide
  bcast_S_S33280x640 := by decide
  bcast_S_S8 := by decide

theorem finite_of (x : EReal) (h : Ideal.cmp .olt (max x (-x)) ⊤ = 1#1) : x ≠ ⊤ ∧ x ≠ ⊥ := by
  have h' : max x (-x) < ⊤ := by
    by_contra hc
    simp [Ideal.cmp, hc] at h
  constructor
  · rintro rfl
    exact absurd h' (by simp)
  · rintro rfl
    exact absurd h' (by simp)

variable [Cert.Pre_finite.Facts] (x0 : FVec Ideal S33280x2304 .bf16) (x1 : FVec Ideal S8 .f32)

/-- Under the precondition the queries and keys are finite. -/
theorem proj_finite (h : (Cert.Pre_finite.fn (F := Ideal) x0 x1).1 = fun _ => 1#1) (R : Fin 33280) (k : Fin 640) :
    x0 (ix2 R ⟨k.val, by omega⟩) ≠ (⊤ : EReal) ∧ x0 (ix2 R ⟨k.val, by omega⟩) ≠ (⊥ : EReal) := by
  have hi : Ideal.ofBits .bf16 0x7F80#16 = ⊤ := by simp [Ideal.ofBits, Ideal.ieee]
  have e := congrFun h (ix2 R k)
  refine finite_of _ (Eq.trans ?_ e)
  unfold Cert.Pre_finite.fn
  pointwise [hi]
  rfl

/-- Under the precondition the sinks are finite. -/
theorem sinks_finite (h : (Cert.Pre_finite.fn (F := Ideal) x0 x1).2 = fun _ => 1#1) (i : Fin 8) :
    x1 (ix1 i) ≠ (⊤ : EReal) ∧ x1 (ix1 i) ≠ (⊥ : EReal) := by
  have hi : Ideal.ofBits .f32 0x7F800000#32 = ⊤ := by simp [Ideal.ofBits, Ideal.ieee]
  have e := congrFun h (ix1 i)
  refine finite_of _ (Eq.trans ?_ e)
  unfold Cert.Pre_finite.fn
  pointwise [hi]
  rfl

end Cert.SwaPre

end
-- ==== Proof.SwaSpec.lean ====
module

public import Idealize.ShloMosaic.Lib.Pointwise

@[expose] public section

set_option maxRecDepth 16384

noncomputable section

namespace Cert.SwaSpec

open Idealize.ShloMosaic

/-- The largest of the scores of one query row and of its sink. -/
def top (sc sp sm : Fin 128 → EReal) (sink : EReal) : EReal :=
  max (Finset.univ.fold max ⊥ fun k => max (max (sc k) (sp k)) (sm k)) sink

/-- The softmax denominator of one query row, its sink included. -/
def denom (sc sp sm : Fin 128 → EReal) (sink m : EReal) : EReal :=
  (∑ k, (Ideal.exp (sc k - m) + Ideal.exp (sp k - m) + Ideal.exp (sm k - m))) + Ideal.exp (sink - m)

/-- The weighted values of one query row: the keys of its own block, of the block before and of the meta block. -/
def numer (sc sp sm : Fin 128 → EReal) (m : EReal) (vc vp vm : Fin 128 → EReal) : EReal :=
  (∑ k, Ideal.exp (sc k - m) * vc k) + (∑ k, Ideal.exp (sp k - m) * vp k) + ∑ k, Ideal.exp (sm k - m) * vm k

/-- One output element of the attention. -/
def att (sc sp sm : Fin 128 → EReal) (sink : EReal) (vc vp vm : Fin 128 → EReal) : EReal :=
  Ideal.div (numer sc sp sm (top sc sp sm sink) vc vp vm) (denom sc sp sm sink (top sc sp sm sink))

/-- The scale of the queries, one over the square root of the head's width. -/
def scale : EReal := Ideal.ofBits .bf16 0x3E00#16

/-- The score of one key against one query. -/
def dotq (q k : Fin 64 → EReal) : EReal := ∑ d, q d * scale * k d

/-- A score where the key is visible, minus infinity where it is hidden. -/
def seen (p : Prop) [Decidable p] (x : EReal) : EReal := if p then x else ⊥

end Cert.SwaSpec

end
-- ==== Proof.SwaBlock.lean ====
module

public import proofs.«01_k».proof.Proof.Gen.KernelIdeal.Skeleton
public import Idealize.ShloMosaic.Lib.WordCmp
public import proofs.«01_k».proof.Proof.SwaSpec

@[expose] public section

set_option maxRecDepth 16384

noncomputable section

namespace Cert.SwaBlock

open Cert.KernelIdeal Cert.KernelIdeal.Gen Cert.KernelIdeal.Facts
open Idealize.ShloMosaic Idealize.ShloMosaic.TcCoe Idealize.SL.Sem Cert.SwaSpec

/-- Which lanes are at or below the query's row, over the four stacked heads. -/
def lower : IVec S512x128 1 :=
  cmpi .sle (iota .tc S512x128 32 [1] iota_S512x128_d1_w32)
    (andi (iota .tc S512x128 32 [0] iota_S512x128_d0_w32) (broadcast S512x128 127#32))

/-- Which lanes are above the query's row. -/
def upper : IVec S512x128 1 :=
  cmpi .sgt (iota .tc S512x128 32 [1] iota_S512x128_d1_w32)
    (andi (iota .tc S512x128 32 [0] iota_S512x128_d0_w32) (broadcast S512x128 127#32))

/-- The lanes of the meta tokens. -/
def metas : IVec S512x128 1 := cmpi .sge (iota .tc S512x128 32 [1] iota_S512x128_d1_w32) (broadcast S512x128 112#32)

/-- The lanes of the first key/value head. -/
def head0 : IVec S512x128 1 := cmpi .slt (iota .tc S512x128 32 [1] iota_S512x128_d1_w32) (broadcast S512x128 64#32)

/-- The lanes of the second key/value head. -/
def head1 : IVec S512x128 1 := cmpi .sge (iota .tc S512x128 32 [1] iota_S512x128_d1_w32) (broadcast S512x128 64#32)

/-- The visible keys of the query's own block `n`. -/
def okCur (n : BitVec 32) : IVec S512x128 1 := andi lower (broadcast S512x128 (Scalar.cmpi .sge n 1#32))

/-- The visible keys of the block before. -/
def okPrev (n : BitVec 32) : IVec S512x128 1 := andi upper (broadcast S512x128 (Scalar.cmpi .sge n 2#32))

/-- The visible meta keys. -/
def okMeta (n : BitVec 32) : IVec S512x128 1 := andi metas (ori (broadcast S512x128 (Scalar.cmpi .sge n 1#32)) lower)

/-- The scaled queries of the four heads of a group, stacked. -/
def stacked (q0 q1 q2 q3 : FVec Ideal S128x128 .bf16) : FVec Ideal S512x128 .bf16 :=
  mulf (concatenate S512x128 0 [⟨S128x128, shapeCast S128x128 q0 shapeCasts_S128x128_S128x128⟩,
      ⟨S128x128, shapeCast S128x128 q1 shapeCasts_S128x128_S128x128⟩,
      ⟨S128x128, shapeCast S128x128 q2 shapeCasts_S128x128_S128x128⟩,
      ⟨S128x128, shapeCast S128x128 q3 shapeCasts_S128x128_S128x128⟩]
      concatenates_S128x128_S128x128_S128x128_S128x128_S512x128_d0)
    (broadcast S512x128 (Scalar.ofBits .bf16 0x3E00#16))

/-- The sinks of the four stacked heads. -/
def sinkCol (s0 s1 s2 s3 : Elt Ideal .f32) : FVec Ideal S512x1 .f32 :=
  concatenate S512x1 0 [⟨S128x1, broadcast S128x1 s0⟩, ⟨S128x1, broadcast S128x1 s1⟩, ⟨S128x1, broadcast S128x1 s2⟩,
    ⟨S128x1, broadcast S128x1 s3⟩] concatenates_S128x1_S128x1_S128x1_S128x1_S512x1_d0

/-- The stacked queries with the lanes of the other key/value head cleared. -/
def only (lanes : IVec S512x128 1) (q : FVec Ideal S512x128 .bf16) : FVec Ideal S512x128 .bf16 :=
  select lanes q (broadcast S512x128 (Scalar.sitofp .bf16 0#32))

/-- The scores against one block of keys, minus infinity where a key is hidden. -/
def scores (ok : IVec S512x128 1) (q : FVec Ideal S512x128 .bf16) (k : FVec Ideal S128x128 .bf16) : FVec Ideal S512x128 .f32 :=
  select ok (matmul dot_S512x128_S128x128_S512x128_1_1_0_0_n_n none q
      (shapeCast S128x128 k shapeCasts_S128x128_S128x128) (constant S512x128 .f32 0x00000000#32))
    (broadcast S512x128 (Named.named κ "mask" 0xF149F2CA#32))

/-- The row maximum. -/
def rowTop (sc sp sm : FVec Ideal S512x128 .f32) (sink : FVec Ideal S512x1 .f32) : FVec Ideal S512x1 .f32 :=
  maximumf (shapeCast S512x1 (multiReduction .maximumf [1] S512 (maximumf (maximumf sc sp) sm) 0xFF800000#32
    reduces_S512x128_S512 (.inl rfl) rfl) shapeCasts_S512_S512x1) sink

/-- The weights of one block of keys. -/
def weight (s : FVec Ideal S512x128 .f32) (top : FVec Ideal S512x1 .f32) : FVec Ideal S512x128 .f32 :=
  exp (subf s (broadcastTo S512x128 top broadcasts_S512x1_S512x128))

/-- One key/value head of the attention from its weights. -/
def mixed (wc wp wm : FVec Ideal S512x128 .f32) (top sink : FVec Ideal S512x1 .f32)
    (vc vp vm : FVec Ideal S128x128 .bf16) : FVec Ideal S512x128 .f32 :=
  divf (addf (addf
      (matmul dot_S512x128_S128x128_S512x128_1_0_0_1_n_n none (truncf .bf16 wc bitsLt_bf16_f32)
        (shapeCast S128x128 vc shapeCasts_S128x128_S128x128) (constant S512x128 .f32 0x00000000#32))
      (matmul dot_S512x128_S128x128_S512x128_1_0_0_1_n_n none (truncf .bf16 wp bitsLt_bf16_f32)
        (shapeCast S128x128 vp shapeCasts_S128x128_S128x128) (constant S512x128 .f32 0x00000000#32)))
      (matmul dot_S512x128_S128x128_S512x128_1_0_0_1_n_n none (truncf .bf16 wm bitsLt_bf16_f32)
        (shapeCast S128x128 vm shapeCasts_S128x128_S128x128) (constant S512x128 .f32 0x00000000#32)))
    (broadcastTo S512x128 (addf (shapeCast S512x1 (multiReduction .add [1] S512 (addf (addf wc wp) wm) 0x00000000#32
        reduces_S512x128_S512 (.inl rfl) rfl) shapeCasts_S512_S512x1) (exp (subf sink top)))
      broadcasts_S512x1_S512x128)

/-- One key/value head of the attention from its scores. -/
def half (sc sp sm : FVec Ideal S512x128 .f32) (sink : FVec Ideal S512x1 .f32) (vc vp vm : FVec Ideal S128x128 .bf16) :
    FVec Ideal S512x128 .f32 :=
  mixed (weight sc (rowTop sc sp sm sink)) (weight sp (rowTop sc sp sm sink)) (weight sm (rowTop sc sp sm sink))
    (rowTop sc sp sm sink) sink vc vp vm

/-- The attention of block `n`, its heads stacked: from its queries, the keys and values of its own block, of the block
before and of the meta block, and the sinks. -/
def blk (n : BitVec 32) (q0 q1 q2 q3 kc vc kp vp km vm : FVec Ideal S128x128 .bf16)
    (s0 s1 s2 s3 s4 s5 s6 s7 : Elt Ideal .f32) : FVec Ideal S512x128 .f32 :=
  select head0
    (half (scores (okCur n) (only head0 (stacked q0 q1 q2 q3)) kc) (scores (okPrev n) (only head0 (stacked q0 q1 q2 q3)) kp)
      (scores (okMeta n) (only head0 (stacked q0 q1 q2 q3)) km) (sinkCol s0 s1 s2 s3) vc vp vm)
    (half (scores (okCur n) (only head1 (stacked q0 q1 q2 q3)) kc) (scores (okPrev n) (only head1 (stacked q0 q1 q2 q3)) kp)
      (scores (okMeta n) (only head1 (stacked q0 q1 q2 q3)) km) (sinkCol s4 s5 s6 s7) vc vp vm)

/-- One head of a stacked block, as it is stored. -/
def slab (b : ℕ) (h : S512x128.Slices ![b, 0] S128x128) (o : FVec Ideal S512x128 .f32) : FVec Ideal S128x128 .bf16 :=
  truncf .bf16 (extractStridedSlice S128x128 ![b, 0] o h) bitsLt_bf16_f32

theorem half_at (sc sp sm : FVec Ideal S512x128 .f32) (sink : FVec Ideal S512x1 .f32) (vc vp vm : FVec Ideal S128x128 .bf16)
    (p : Fin 512) (l : Fin 128) :
    half sc sp sm sink vc vp vm (ix2 p l) = att (fun k => sc (ix2 p k)) (fun k => sp (ix2 p k)) (fun k => sm (ix2 p k))
      (sink (ix2 p 0)) (fun k => vc (ix2 k l)) (fun k => vp (ix2 k l)) (fun k => vm (ix2 k l)) := by
  have h : Ideal.ofBits .f32 0xFF800000#32 = ⊥ := by simp [Ideal.ofBits, Ideal.ieee]
  pointwise [half, mixed, weight, rowTop, att, numer, denom, top, h]

theorem scores_at (ok : IVec S512x128 1) (q : FVec Ideal S512x128 .bf16) (k : FVec Ideal S128x128 .bf16)
    (p : Fin 512) (j : Fin 128) :
    scores ok q k (ix2 p j) = Scalar.select (ok (ix2 p j)) (∑ l : Fin 128, q (ix2 p l) * k (ix2 j l)) (⊥ : EReal) := by
  pointwise [scores]
  rfl

theorem stacked_at (q : Fin 4 → FVec Ideal S128x128 .bf16) (b : Fin 4) (r l : Fin 128) :
    stacked (q 0) (q 1) (q 2) (q 3) (ix2 ⟨b.val * 128 + r.val, by omega⟩ l) = q b (ix2 r l) * scale := by
  pointwise [stacked, scale]
  rcases b with ⟨b, hb⟩
  interval_cases b <;> dsimp only
  · rw [dif_pos (by omega)]; exact congrArg (fun z => q _ (ix2 z l) * _) (Fin.ext (by simp))
  · rw [dif_neg (by omega), dif_pos (by omega)]; exact congrArg (fun z => q _ (ix2 z l) * _) (Fin.ext (by simp))
  · rw [dif_neg (by omega), dif_neg (by omega), dif_pos (by omega)]
    exact congrArg (fun z => q _ (ix2 z l) * _) (Fin.ext (by dsimp only; omega))
  · rw [dif_neg (by omega), dif_neg (by omega), dif_neg (by omega)]
    exact congrArg (fun z => q _ (ix2 z l) * _) (Fin.ext (by dsimp only; omega))

theorem sinkCol_at (s : Fin 4 → Elt Ideal .f32) (b : Fin 4) (r : Fin 128) :
    sinkCol (s 0) (s 1) (s 2) (s 3) (ix2 ⟨b.val * 128 + r.val, by omega⟩ 0) = s b := by
  pointwise [sinkCol]
  rcases b with ⟨b, hb⟩
  interval_cases b <;> dsimp only
  · rw [dif_pos (by omega)]; rfl
  · rw [dif_neg (by omega), dif_pos (by omega)]; rfl
  · rw [dif_neg (by omega), dif_neg (by omega), dif_pos (by omega)]; rfl
  · rw [dif_neg (by omega), dif_neg (by omega), dif_neg (by omega)]; rfl

theorem only_at (n : IVec S512x128 1) (q : FVec Ideal S512x128 .bf16) (p : Fin 512) (l : Fin 128) :
    only n q (ix2 p l) = Scalar.select (n (ix2 p l)) (q (ix2 p l)) (0 : EReal) := by
  pointwise [only]
  simp

theorem select_ofBool {α : Type} (p : Prop) [Decidable p] (x y : α) :
    Scalar.select (BitVec.ofBool (decide p)) x y = if p then x else y := by
  by_cases h : p <;> simp [h, Scalar.select]

theorem andi_ofBool (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

theorem ori_ofBool (p q : Prop) [Decidable p] [Decidable q] :
    IntOp.ori (BitVec.ofBool (decide p)) (BitVec.ofBool (decide q)) = BitVec.ofBool (decide (p ∨ q)) := by
  by_cases h : p <;> by_cases h' : q <;> simp [h, h', IntOp.ori]

theorem head0_at (p : Fin 512) (l : Fin 128) : head0 (ix2 p l) = BitVec.ofBool (decide (l.val < 64)) := by
  pointwise [head0]
  exact WordCmp.cmpi_slt_ofNat (w := 32) (by omega) (by omega)

theorem head1_at (p : Fin 512) (l : Fin 128) : head1 (ix2 p l) = BitVec.ofBool (decide (64 ≤ l.val)) := by
  pointwise [head1]
  exact WordCmp.cmpi_sge_ofNat (w := 32) (by omega) (by omega)

theorem row_and (b : Fin 4) (r : Fin 128) :
    IntOp.andi (BitVec.ofNat 32 (b.val * 128 + r.val)) 127#32 = BitVec.ofNat 32 r.val := by
  apply BitVec.eq_of_toNat_eq
  have h := Nat.and_two_pow_sub_one_eq_mod (b.val * 128 + r.val) 7
  norm_num at h
  simp only [IntOp.andi, BitVec.toNat_and, BitVec.toNat_ofNat]
  rw [Nat.mod_eq_of_lt (by omega : b.val * 128 + r.val < 2 ^ 32), Nat.mod_eq_of_lt (by omega : 127 < 2 ^ 32),
    Nat.mod_eq_of_lt (by omega : r.val < 2 ^ 32), h]
  omega

theorem lower_at (b : Fin 4) (r l : Fin 128) :
    lower (ix2 ⟨b.val * 128 + r.val, by omega⟩ l) = BitVec.ofBool (decide (l.val ≤ r.val)) := by
  pointwise [lower]
  rw [row_and]
  exact WordCmp.cmpi_sle_ofNat (w := 32) (by omega) (by omega)

theorem upper_at (b : Fin 4) (r l : Fin 128) :
    upper (ix2 ⟨b.val * 128 + r.val, by omega⟩ l) = BitVec.ofBool (decide (r.val < l.val)) := by
  pointwise [upper]
  rw [row_and]
  exact WordCmp.cmpi_sgt_ofNat (w := 32) (by omega) (by omega)

theorem metas_at (p : Fin 512) (l : Fin 128) : metas (ix2 p l) = BitVec.ofBool (decide (112 ≤ l.val)) := by
  pointwise [metas]
  exact WordCmp.cmpi_sge_ofNat (w := 32) (by omega) (by omega)

theorem okCur_at (N : ℕ) (hN : N < 65) (b : Fin 4) (r l : Fin 128) :
    okCur (BitVec.ofNat 32 N) (ix2 ⟨b.val * 128 + r.val, by omega⟩ l)
      = BitVec.ofBool (decide (l.val ≤ r.val ∧ 1 ≤ N)) := by
  have h : IntOp.cmpi .sge (BitVec.ofNat 32 N) 1#32 = BitVec.ofBool (decide (1 ≤ N)) :=
    WordCmp.cmpi_sge_ofNat (w := 32) (by omega) (by omega)
  pointwise [okCur]
  rw [← andi_ofBool, ← h, lower_at]; rfl

theorem okPrev_at (N : ℕ) (hN : N < 65) (b : Fin 4) (r l : Fin 128) :
    okPrev (BitVec.ofNat 32 N) (ix2 ⟨b.val * 128 + r.val, by omega⟩ l)
      = BitVec.ofBool (decide (r.val < l.val ∧ 2 ≤ N)) := by
  have h : IntOp.cmpi .sge (BitVec.ofNat 32 N) 2#32 = BitVec.ofBool (decide (2 ≤ N)) :=
    WordCmp.cmpi_sge_ofNat (w := 32) (by omega) (by omega)
  pointwise [okPrev]
  rw [← andi_ofBool, ← h, upper_at]; rfl

theorem okMeta_at (N : ℕ) (hN : N < 65) (b : Fin 4) (r l : Fin 128) :
    okMeta (BitVec.ofNat 32 N) (ix2 ⟨b.val * 128 + r.val, by omega⟩ l)
      = BitVec.ofBool (decide (112 ≤ l.val ∧ (1 ≤ N ∨ l.val ≤ r.val))) := by
  have h : IntOp.cmpi .sge (BitVec.ofNat 32 N) 1#32 = BitVec.ofBool (decide (1 ≤ N)) :=
    WordCmp.cmpi_sge_ofNat (w := 32) (by omega) (by omega)
  pointwise [okMeta]
  rw [← andi_ofBool, ← ori_ofBool, ← h, metas_at, lower_at]; rfl

/-- The scores of a stacked query row against one block of keys, in the lanes of one key/value head. -/
theorem sum_lanes (kv : Fin 2) (lanes : IVec S512x128 1) (p : Fin 512)
    (hl : ∀ l : Fin 128, lanes (ix2 p l) = BitVec.ofBool (decide (l.val / 64 = kv.val)))
    (q : FVec Ideal S512x128 .bf16) (k : FVec Ideal S128x128 .bf16) (j : Fin 128) :
    (∑ l : Fin 128, only lanes q (ix2 p l) * k (ix2 j l))
      = ∑ d : Fin 64, q (ix2 p ⟨kv.val * 64 + d.val, by omega⟩) * k (ix2 j ⟨kv.val * 64 + d.val, by omega⟩) := by
  have h0 (l : Fin 128) : only lanes q (ix2 p l) * k (ix2 j l)
      = if l.val / 64 = kv.val then q (ix2 p l) * k (ix2 j l) else (0 : EReal) := by
    rw [only_at, hl, select_ofBool]
    by_cases h : l.val / 64 = kv.val
    · rw [if_pos h, if_pos h]
    · rw [if_neg h, if_neg h]; exact zero_mul _
  rw [Finset.sum_congr rfl fun l _ => h0 l]
  rw [Fin.sum_univ_tiles 2 64 rfl, Finset.sum_eq_single kv]
  · refine Finset.sum_congr rfl fun d _ => ?_
    rw [if_pos (by dsimp only; omega)]
  · intro i _ hi
    refine Finset.sum_eq_zero fun d _ => ?_
    rw [if_neg (by dsimp only; intro h; apply hi; ext; omega)]
  · intro h; exact absurd (Finset.mem_univ _) h

/-- One key/value head of a block at an index. -/
theorem head_at (N : ℕ) (hN : N < 65) (kv : Fin 2) (lanes : IVec S512x128 1)
    (hl : ∀ (p : Fin 512) (l : Fin 128), lanes (ix2 p l) = BitVec.ofBool (decide (l.val / 64 = kv.val)))
    (q : Fin 4 → FVec Ideal S128x128 .bf16) (kc vc kp vp km vm : FVec Ideal S128x128 .bf16)
    (s : Fin 4 → Elt Ideal .f32) (b : Fin 4) (r l : Fin 128) :
    half (scores (okCur (BitVec.ofNat 32 N)) (only lanes (stacked (q 0) (q 1) (q 2) (q 3))) kc)
        (scores (okPrev (BitVec.ofNat 32 N)) (only lanes (stacked (q 0) (q 1) (q 2) (q 3))) kp)
        (scores (okMeta (BitVec.ofNat 32 N)) (only lanes (stacked (q 0) (q 1) (q 2) (q 3))) km)
        (sinkCol (s 0) (s 1) (s 2) (s 3)) vc vp vm (ix2 ⟨b.val * 128 + r.val, by omega⟩ l)
      = att
          (fun k => seen (k.val ≤ r.val ∧ 1 ≤ N) (dotq (fun d => q b (ix2 r ⟨kv.val * 64 + d.val, by omega⟩))
            fun d => kc (ix2 k ⟨kv.val * 64 + d.val, by omega⟩)))
          (fun k => seen (r.val < k.val ∧ 2 ≤ N) (dotq (fun d => q b (ix2 r ⟨kv.val * 64 + d.val, by omega⟩))
            fun d => kp (ix2 k ⟨kv.val * 64 + d.val, by omega⟩)))
          (fun k => seen (112 ≤ k.val ∧ (1 ≤ N ∨ k.val ≤ r.val)) (dotq (fun d => q b (ix2 r ⟨kv.val * 64 + d.val, by omega⟩))
            fun d => km (ix2 k ⟨kv.val * 64 + d.val, by omega⟩)))
          (s b) (fun k => vc (ix2 k l)) (fun k => vp (ix2 k l)) (fun k => vm (ix2 k l)) := by
  have key (k : FVec Ideal S128x128 .bf16) (j : Fin 128) :
      (∑ x : Fin 128, only lanes (stacked (q 0) (q 1) (q 2) (q 3)) (ix2 ⟨b.val * 128 + r.val, by omega⟩ x) * k (ix2 j x))
        = dotq (fun d => q b (ix2 r ⟨kv.val * 64 + d.val, by omega⟩)) fun d => k (ix2 j ⟨kv.val * 64 + d.val, by omega⟩) := by
    rw [sum_lanes kv lanes _ (hl _)]
    exact Finset.sum_congr rfl fun d _ => by rw [stacked_at]
  rw [half_at, sinkCol_at]
  congr 1
  · funext k; rw [scores_at, key, okCur_at N hN, select_ofBool]; rfl
  · funext k; rw [scores_at, key, okPrev_at N hN, select_ofBool]; rfl
  · funext k; rw [scores_at, key, okMeta_at N hN, select_ofBool]; rfl

/-- A block of the attention at an index. -/
theorem blk_at (N : ℕ) (hN : N < 65) (q : Fin 4 → FVec Ideal S128x128 .bf16) (kc vc kp vp km vm : FVec Ideal S128x128 .bf16)
    (s : Fin 2 → Fin 4 → Elt Ideal .f32) (b : Fin 4) (r : Fin 128) (kv : Fin 2) (e : Fin 64) :
    blk (BitVec.ofNat 32 N) (q 0) (q 1) (q 2) (q 3) kc vc kp vp km vm (s 0 0) (s 0 1) (s 0 2) (s 0 3) (s 1 0) (s 1 1) (s 1 2) (s 1 3)
        (ix2 ⟨b.val * 128 + r.val, by omega⟩ ⟨kv.val * 64 + e.val, by omega⟩)
      = att
          (fun k => seen (k.val ≤ r.val ∧ 1 ≤ N) (dotq (fun d => q b (ix2 r ⟨kv.val * 64 + d.val, by omega⟩))
            fun d => kc (ix2 k ⟨kv.val * 64 + d.val, by omega⟩)))
          (fun k => seen (r.val < k.val ∧ 2 ≤ N) (dotq (fun d => q b (ix2 r ⟨kv.val * 64 + d.val, by omega⟩))
            fun d => kp (ix2 k ⟨kv.val * 64 + d.val, by omega⟩)))
          (fun k => seen (112 ≤ k.val ∧ (1 ≤ N ∨ k.val ≤ r.val)) (dotq (fun d => q b (ix2 r ⟨kv.val * 64 + d.val, by omega⟩))
            fun d => km (ix2 k ⟨kv.val * 64 + d.val, by omega⟩)))
          (s kv b) (fun k => vc (ix2 k ⟨kv.val * 64 + e.val, by omega⟩)) (fun k => vp (ix2 k ⟨kv.val * 64 + e.val, by omega⟩))
          (fun k => vm (ix2 k ⟨kv.val * 64 + e.val, by omega⟩)) := by
  have h0 (p : Fin 512) (l : Fin 128) : head0 (ix2 p l) = BitVec.ofBool (decide (l.val / 64 = (0 : Fin 2).val)) := by
    rw [head0_at]; exact congrArg _ (decide_eq_decide.2 (by simp))
  have h1 (p : Fin 512) (l : Fin 128) : head1 (ix2 p l) = BitVec.ofBool (decide (l.val / 64 = (1 : Fin 2).val)) := by
    rw [head1_at]; exact congrArg _ (decide_eq_decide.2 (by simp; omega))
  unfold blk
  refine Eq.trans (b := Scalar.select (head0 _) _ _) rfl ?_
  rw [h0, select_ofBool]
  rcases Fin.exists_fin_two.1 ⟨kv, rfl⟩ with h | h <;> subst h
  · rw [if_pos (by simp)]
    exact head_at N hN 0 head0 h0 q kc vc kp vp km vm (s 0) b r _
  · rw [if_neg (by simp)]
    exact head_at N hN 1 head1 h1 q kc vc kp vp km vm (s 1) b r _

end Cert.SwaBlock

end
-- ==== Proof.SwaOut.lean ====
module

public import proofs.«01_k».proof.Proof.Gen.KernelIdeal.Value
public import proofs.«01_k».proof.Proof.SwaBlock
public import Idealize.ShloMosaic.Lib.Pipeline.ValueKit

@[expose] public section

set_option maxRecDepth 16384

noncomputable section

namespace Cert.SwaOut

open Cert.KernelIdeal Cert.KernelIdeal.Gen
open Idealize.ShloMosaic Idealize.ShloMosaic.TcCoe Idealize.SL.Sem Cert.SwaBlock
open Idealize.ShloMosaic.Pipeline (Dat)

theorem inb_q (s : Fin 13) (b : Fin 4) :
    ∀ a, (![s.val * 128, b.val * 128] : Fin 2 → ℕ) a + (![128, 128] : Fin 2 → ℕ) a ≤ S1664x512.size a := by
  intro a; fin_cases a
  · show s.val * 128 + 128 ≤ 1664; omega
  · show b.val * 128 + 128 ≤ 512; omega

theorem inb_k (s : Fin 13) :
    ∀ a, (![s.val * 128, 0] : Fin 2 → ℕ) a + (![128, 128] : Fin 2 → ℕ) a ≤ S1664x128.size a := by
  intro a; fin_cases a
  · show s.val * 128 + 128 ≤ 1664; omega
  · show 0 + 128 ≤ 128; omega

theorem inb_s (i : Fin 8) : ∀ a, (![i.val] : Fin 1 → ℕ) a + (![1] : Fin 1 → ℕ) a ≤ S8.size a := by
  intro a; fin_cases a
  show i.val + 1 ≤ 8; omega

/-- The place of block `s`, head `b` of a group in a staged tile of rows. -/
def place (s : Fin 13) (b : Fin 4) : Rect S1664x512 := Rect.unit (s := S1664x512) ![s.val * 128, b.val * 128] ![128, 128] (inb_q s b)

/-- The queries of block `s`, head `b` of a group. -/
def qcut (X : FVec Ideal S1664x512 .bf16) (s : Fin 13) (b : Fin 4) : FVec Ideal S128x128 .bf16 :=
  fun x => X ((place s b).idx x)

/-- The keys or values of block `s`. -/
def kcut (X : FVec Ideal S1664x128 .bf16) (s : Fin 13) : FVec Ideal S128x128 .bf16 :=
  fun x => X ((Rect.unit (s := S1664x128) ![s.val * 128, 0] ![128, 128] (inb_k s)).idx x)

/-- The keys or values of the block before block `s`; `P` is the block before the tile. -/
def pcut (P : FVec Ideal S128x128 .bf16) (X : FVec Ideal S1664x128 .bf16) (s : Fin 13) : FVec Ideal S128x128 .bf16 :=
  if s.val = 0 then P else kcut X ⟨s.val - 1, by omega⟩

/-- One sink. -/
def scut (X : FVec Ideal S8 .f32) (i : Fin 8) : Elt Ideal .f32 :=
  X ((Rect.unit (s := S8) ![i.val] ![1] (inb_s i)).idx fun a => ⟨0, by fin_cases a; exact Nat.one_pos⟩)

/-- The heads of block `s` of tile `n` of a batch. -/
def sub (n : ℕ) (Q : FVec Ideal S1664x512 .bf16) (K V : FVec Ideal S1664x128 .bf16) (Kp Vp Km Vm : FVec Ideal S128x128 .bf16)
    (Z : FVec Ideal S8 .f32) (s : Fin 13) : FVec Ideal S512x128 .f32 :=
  blk (Scalar.addi (Scalar.muli (BitVec.ofNat 32 n) 13#32) (BitVec.ofNat 32 s.val)) (qcut Q s 0) (qcut Q s 1) (qcut Q s 2) (qcut Q s 3)
    (kcut K s) (kcut V s) (pcut Kp K s) (pcut Vp V s) Km Vm
    (scut Z 0) (scut Z 1) (scut Z 2) (scut Z 3) (scut Z 4) (scut Z 5) (scut Z 6) (scut Z 7)

theorem slices_b (b : Fin 4) : S512x128.Slices ![b.val * 128, 0] S128x128 := by
  revert b; decide

/-- What the body stores of head `b` of block `s`, and where. -/
def stored (o : Fin 13 → FVec Ideal S512x128 .f32) (s : Fin 13) (b : Fin 4) : View.Piece (Elt Ideal) S1664x512 .bf16 :=
  ⟨place s b, slab (b.val * 128) (slices_b b) (o s)⟩

/-- All that the body stores. -/
def pieces (o : Fin 13 → FVec Ideal S512x128 .f32) : List (View.Piece (Elt Ideal) S1664x512 .bf16) :=
  [12, 11, 10, 9, 8, 7, 6, 5, 4, 3, 2, 1, 0].flatMap fun s => [3, 2, 1, 0].map fun b => stored o s b

variable (m : (ℓ : Loc nD τ sig) → Buf (Elt Ideal) ℓ)

set_option maxHeartbeats 2000000 in
theorem out_eq (c : Dev nD) (t : Fin cfg0.N) (y : S1664x512.Idx) :
    outsAt0 m c t y = View.canon (pieces (sub (grid0.coords t 1).val (X0_0 m c t) (iblk m c 1 t) (iblk m c 2 t) (iblk m c 3 t)
      (iblk m c 4 t) (iblk m c 5 t) (iblk m c 6 t) (iblk m c 7 t))) y := by
  unfold outsAt0
  frame_out
  rw [(hs0_7 t).read_unread (iblk m c 7 t), (hs0_0 t).read_unread (X0_0 m c t)]
  refine congrArg (fun z => View.canon z y) ?_
  unfold pieces
  simp only [List.flatMap_cons, List.flatMap_nil, List.map_cons, List.map_nil, List.cons_append, List.nil_append]
  repeat' refine congrArg₂ List.cons ?_ ?_
  all_goals rfl

/-- One element of the tile the body leaves. -/
def tile (o : Fin 13 → FVec Ideal S512x128 .f32) (y : S1664x512.Idx) : Elt Ideal .bf16 :=
  o ⟨(y 0).val / 128, by have := (y 0).isLt; change _ < 1664 at this; omega⟩
    (ix2 ⟨(y 1).val / 128 * 128 + (y 0).val % 128, by have := (y 1).isLt; change _ < 512 at this; omega⟩
      ⟨(y 1).val % 128, Nat.mod_lt _ (by omega)⟩)

theorem emb_place (s : Fin 13) (b : Fin 4) (i l : Fin 128) :
    (place s b).emb (ix2 i l) = ix2 ⟨s.val * 128 + i.val, by omega⟩ ⟨b.val * 128 + l.val, by omega⟩ := by
  funext a
  fin_cases a
  · exact Fin.ext (by show s.val * 128 + 1 * i.val = s.val * 128 + i.val; omega)
  · exact Fin.ext (by show b.val * 128 + 1 * l.val = b.val * 128 + l.val; omega)

theorem slab_at (b : Fin 4) (o : FVec Ideal S512x128 .f32) (i l : Fin 128) :
    slab (b.val * 128) (slices_b b) o (ix2 i l) = o (ix2 ⟨b.val * 128 + i.val, by omega⟩ l) := by
  pointwise [slab]

theorem tile_at (o : Fin 13 → FVec Ideal S512x128 .f32) (s : Fin 13) (b : Fin 4) (i l : Fin 128) :
    tile o (ix2 ⟨s.val * 128 + i.val, by omega⟩ ⟨b.val * 128 + l.val, by omega⟩) = o s (ix2 ⟨b.val * 128 + i.val, by omega⟩ l) := by
  have h0 : (s.val * 128 + i.val) / 128 = s.val := by omega
  have h1 : (b.val * 128 + l.val) / 128 * 128 + (s.val * 128 + i.val) % 128 = b.val * 128 + i.val := by omega
  have h2 : (b.val * 128 + l.val) % 128 = l.val := by omega
  unfold tile
  refine congr (congrArg o (Fin.ext h0)) (congrArg₂ ix2 (Fin.ext h1) (Fin.ext h2))

theorem canon_pieces (o : Fin 13 → FVec Ideal S512x128 .f32) (y : S1664x512.Idx) : View.canon (pieces o) y = tile o y := by
  refine View.canon_apply_of_pieces (Val := Elt Ideal) (S := S1664x512) (e := .bf16) (tile o) _ ?_ _ ?_
  · intro p hp
    obtain ⟨s, _, hp⟩ := List.mem_flatMap.1 hp
    obtain ⟨b, _, rfl⟩ := List.mem_map.1 hp
    intro (x : S128x128.Idx)
    obtain ⟨i, l, rfl⟩ : ∃ i l : Fin 128, x = ix2 i l := ⟨x 0, x 1, eq_ix2 x⟩
    exact ((slab_at b (o s) i l).trans (tile_at o s b i l).symm).trans (congrArg (tile o) (emb_place s b i l).symm)
  · obtain ⟨p, q, rfl⟩ : ∃ (p : Fin 1664) (q : Fin 512), y = ix2 p q := ⟨y 0, y 1, eq_ix2 y⟩
    have hp : p.val / 128 < 13 := by omega
    have hq : q.val / 128 < 4 := by omega
    refine ⟨stored o ⟨p.val / 128, hp⟩ ⟨q.val / 128, hq⟩, ?_, ?_⟩
    · have hs : ∀ s : Fin 13, s ∈ ([12, 11, 10, 9, 8, 7, 6, 5, 4, 3, 2, 1, 0] : List (Fin 13)) := by decide
      have hb : ∀ b : Fin 4, b ∈ ([3, 2, 1, 0] : List (Fin 4)) := by decide
      exact List.mem_flatMap.2 ⟨_, hs _, List.mem_map.2 ⟨_, hb _, rfl⟩⟩
    · refine Rect.mem_set_unit (inb := inb_q ⟨p.val / 128, hp⟩ ⟨q.val / 128, hq⟩) |>.2 fun a => ?_
      fin_cases a
      · show p.val / 128 * 128 ≤ p.val ∧ p.val < p.val / 128 * 128 + 128; omega
      · show q.val / 128 * 128 ≤ q.val ∧ q.val < q.val / 128 * 128 + 128; omega

/-- The tile the body leaves: head `b` of block `s` holds the attention of that block. -/
theorem out_at (c : Dev nD) (t : Fin cfg0.N) (s : Fin 13) (b : Fin 4) (i l : Fin 128) :
    outsAt0 m c t (ix2 ⟨s.val * 128 + i.val, by omega⟩ ⟨b.val * 128 + l.val, by omega⟩)
      = sub (grid0.coords t 1).val (X0_0 m c t) (iblk m c 1 t) (iblk m c 2 t) (iblk m c 3 t)
          (iblk m c 4 t) (iblk m c 5 t) (iblk m c 6 t) (iblk m c 7 t) s (ix2 ⟨b.val * 128 + i.val, by omega⟩ l) :=
  (out_eq m c t _).trans ((canon_pieces _ _).trans (tile_at _ s b i l))

end Cert.SwaOut

end
-- ==== Proof.SwaHost.lean ====
module

public import proofs.«01_k».proof.Proof.Gen.KernelIdeal.Frame
public import Idealize.ShloMosaic.Lib.Pipeline.ValueKit
public import Idealize.ShloMosaic.Lib.Claim

@[expose] public section

set_option maxRecDepth 16384

noncomputable section

namespace Cert.SwaHost

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ)

/-- The windows' index maps at every grid point. -/
theorem idx : ∀ t : Fin cfg0.N, win0_0.index t = ![t.val, 0] ∧ win0_1.index t = ![t.val, 4] ∧ win0_2.index t = ![t.val, 5]
    ∧ win0_3.index t = ![t.val / 5 * 65 + (t.val % 5 * 13 - 1), 4] ∧ win0_4.index t = ![t.val / 5 * 65 + (t.val % 5 * 13 - 1), 5]
    ∧ win0_5.index t = ![t.val / 5 * 65, 4] ∧ win0_6.index t = ![t.val / 5 * 65, 5] ∧ win0_7.index t = ![0]
    ∧ win0_8.index t = ![t.val, 0] ∧ (grid0.coords t 1).val = t.val % 5 ∧ t.val < 20 :=
  (by decide +kernel : ∀ t : Fin grid0.N, _)

theorem lt20 (t : Fin cfg0.N) : t.val < 20 := (idx t).2.2.2.2.2.2.2.2.2.2

/-- The array row of row `r` of tile `t`. -/
abbrev row (t : Fin cfg0.N) (r : Fin 1664) : Fin 33280 := ⟨t.val * 1664 + r.val, by have := lt20 t; omega⟩

/-- The array row of row `r` of the block before tile `t`. -/
abbrev prow (t : Fin cfg0.N) (r : Fin 128) : Fin 33280 :=
  ⟨(t.val / 5 * 65 + (t.val % 5 * 13 - 1)) * 128 + r.val, by have := lt20 t; omega⟩

/-- The array row of row `r` of the first block of tile `t`'s sequence. -/
abbrev mrow (t : Fin cfg0.N) (r : Fin 128) : Fin 33280 := ⟨t.val / 5 * 65 * 128 + r.val, by have := lt20 t; omega⟩

/-- The projections the kernel stages, a query column read: the heads are regrouped. -/
theorem staged_q (c : Dev nD) (R : Fin 33280) (k : Fin 512) :
    (V m c main_v5 : FVec Ideal S33280x2304 .bf16) (ix2 R ⟨k.val, by omega⟩) = m ((c : Thread nD τ).loc main_arg0)
      (ix2 R ⟨k.val % 128 / 64 * 256 + k.val / 128 * 64 + k.val % 64, by omega⟩) := by
  entry_read
  pointwise []
  exact congrArg (fun z => m (c, Proc.tc.devRef main_arg0) (ix2 R z)) (Fin.ext (by dsimp only; omega))

/-- The projections the kernel stages, a column after the queries. -/
theorem staged_kv (c : Dev nD) (R : Fin 33280) (k : Fin 2304) (h : 512 ≤ k.val) :
    (V m c main_v5 : FVec Ideal S33280x2304 .bf16) (ix2 R k) = m ((c : Thread nD τ).loc main_arg0) (ix2 R k) := by
  entry_read
  pointwise []
  rw [dif_neg (by omega)]
  exact congrArg (fun z => m (c, Proc.tc.devRef main_arg0) (ix2 R z)) (Fin.ext (by dsimp only; omega))

/-- A tile's keys. -/
theorem blk1 (c : Dev nD) (t : Fin cfg0.N) (r : Fin 1664) (k : Fin 128) :
    (iblk m c 1 t : FVec Ideal S1664x128 .bf16) (ix2 r k) = m ((c : Thread nD τ).loc main_arg0) (ix2 (row t r) ⟨512 + k.val, by omega⟩) := by
  refine Eq.trans (congrArg (V m c main_v5 : FVec Ideal S33280x2304 .bf16) ?_) (staged_kv m c (row t r) ⟨512 + k.val, by omega⟩ (by dsimp only; omega))
  funext a
  apply Fin.ext
  refine Eq.trans (b := win0_1.index t a * S1664x128.size a + (ix2 r k a : ℕ)) ?_ ?_
  · show win0_1.index t a * S1664x128.size a + 1 * (ix2 r k a : ℕ) = _
    omega
  · rw [(idx t).2.1]
    fin_cases a <;> rfl

/-- A tile's values. -/
theorem blk2 (c : Dev nD) (t : Fin cfg0.N) (r : Fin 1664) (k : Fin 128) :
    (iblk m c 2 t : FVec Ideal S1664x128 .bf16) (ix2 r k) = m ((c : Thread nD τ).loc main_arg0) (ix2 (row t r) ⟨640 + k.val, by omega⟩) := by
  refine Eq.trans (congrArg (V m c main_v5 : FVec Ideal S33280x2304 .bf16) ?_) (staged_kv m c (row t r) ⟨640 + k.val, by omega⟩ (by dsimp only; omega))
  funext a
  apply Fin.ext
  refine Eq.trans (b := win0_2.index t a * S1664x128.size a + (ix2 r k a : ℕ)) ?_ ?_
  · show win0_2.index t a * S1664x128.size a + 1 * (ix2 r k a : ℕ) = _
    omega
  · rw [(idx t).2.2.1]
    fin_cases a <;> rfl

/-- The keys of the block before a tile. -/
theorem blk3 (c : Dev nD) (t : Fin cfg0.N) (r : Fin 128) (k : Fin 128) :
    (iblk m c 3 t : FVec Ideal S128x128 .bf16) (ix2 r k) = m ((c : Thread nD τ).loc main_arg0) (ix2 (prow t r) ⟨512 + k.val, by omega⟩) := by
  refine Eq.trans (congrArg (V m c main_v5 : FVec Ideal S33280x2304 .bf16) ?_) (staged_kv m c (prow t r) ⟨512 + k.val, by omega⟩ (by dsimp only; omega))
  funext a
  apply Fin.ext
  refine Eq.trans (b := win0_3.index t a * S128x128.size a + (ix2 r k a : ℕ)) ?_ ?_
  · show win0_3.index t a * S128x128.size a + 1 * (ix2 r k a : ℕ) = _
    omega
  · rw [(idx t).2.2.2.1]
    fin_cases a <;> rfl

/-- The values of the block before a tile. -/
theorem blk4 (c : Dev nD) (t : Fin cfg0.N) (r : Fin 128) (k : Fin 128) :
    (iblk m c 4 t : FVec Ideal S128x128 .bf16) (ix2 r k) = m ((c : Thread nD τ).loc main_arg0) (ix2 (prow t r) ⟨640 + k.val, by omega⟩) := by
  refine Eq.trans (congrArg (V m c main_v5 : FVec Ideal S33280x2304 .bf16) ?_) (staged_kv m c (prow t r) ⟨640 + k.val, by omega⟩ (by dsimp only; omega))
  funext a
  apply Fin.ext
  refine Eq.trans (b := win0_4.index t a * S128x128.size a + (ix2 r k a : ℕ)) ?_ ?_
  · show win0_4.index t a * S128x128.size a + 1 * (ix2 r k a : ℕ) = _
    omega
  · rw [(idx t).2.2.2.2.1]
    fin_cases a <;> rfl

/-- The keys of the first block of a tile's sequence. -/
theorem blk5 (c : Dev nD) (t : Fin cfg0.N) (r : Fin 128) (k : Fin 128) :
    (iblk m c 5 t : FVec Ideal S128x128 .bf16) (ix2 r k) = m ((c : Thread nD τ).loc main_arg0) (ix2 (mrow t r) ⟨512 + k.val, by omega⟩) := by
  refine Eq.trans (congrArg (V m c main_v5 : FVec Ideal S33280x2304 .bf16) ?_) (staged_kv m c (mrow t r) ⟨512 + k.val, by omega⟩ (by dsimp only; omega))
  funext a
  apply Fin.ext
  refine Eq.trans (b := win0_5.index t a * S128x128.size a + (ix2 r k a : ℕ)) ?_ ?_
  · show win0_5.index t a * S128x128.size a + 1 * (ix2 r k a : ℕ) = _
    omega
  · rw [(idx t).2.2.2.2.2.1]
    fin_cases a <;> rfl

/-- The values of the first block of a tile's sequence. -/
theorem blk6 (c : Dev nD) (t : Fin cfg0.N) (r : Fin 128) (k : Fin 128) :
    (iblk m c 6 t : FVec Ideal S128x128 .bf16) (ix2 r k) = m ((c : Thread nD τ).loc main_arg0) (ix2 (mrow t r) ⟨640 + k.val, by omega⟩) := by
  refine Eq.trans (congrArg (V m c main_v5 : FVec Ideal S33280x2304 .bf16) ?_) (staged_kv m c (mrow t r) ⟨640 + k.val, by omega⟩ (by dsimp only; omega))
  funext a
  apply Fin.ext
  refine Eq.trans (b := win0_6.index t a * S128x128.size a + (ix2 r k a : ℕ)) ?_ ?_
  · show win0_6.index t a * S128x128.size a + 1 * (ix2 r k a : ℕ) = _
    omega
  · rw [(idx t).2.2.2.2.2.2.1]
    fin_cases a <;> rfl

/-- A tile's queries. -/
theorem blk0 (c : Dev nD) (t : Fin cfg0.N) (r : Fin 1664) (k : Fin 512) :
    (X0_0 m c t : FVec Ideal S1664x512 .bf16) (ix2 r k) = m ((c : Thread nD τ).loc main_arg0)
      (ix2 (row t r) ⟨k.val % 128 / 64 * 256 + k.val / 128 * 64 + k.val % 64, by omega⟩) := by
  refine Eq.trans ?_ (staged_q m c (row t r) k)
  refine (dif_pos (moved0_0 t (ix2 r k))).trans ?_
  refine congrArg (V m c main_v5 : FVec Ideal S33280x2304 .bf16) ?_
  funext a
  apply Fin.ext
  refine Eq.trans (b := win0_0.index t a * S1664x512.size a + (ix2 r k a : ℕ)) ?_ ?_
  · show win0_0.index t a * S1664x512.size a + 1 * (ix2 r k a : ℕ) = _
    omega
  · rw [(idx t).1]
    fin_cases a
    · rfl
    · show 0 * 512 + k.val = k.val
      omega

/-- The sinks. -/
theorem blk7 (c : Dev nD) (t : Fin cfg0.N) (i : Fin 8) :
    (iblk m c 7 t : FVec Ideal S8 .f32) (ix1 i) = m ((c : Thread nD τ).loc main_arg1) (ix1 i) := by
  blk_point [iblk, V, idx t]

/-- The element of the result that a tile places an index at. -/
theorem emb8 (t : Fin cfg0.N) (y : S1664x512.Idx) (a : Fin 2) :
    ((((View.whole main_v6).slice (win0_8.rect t)).emb y) a : ℕ) = win0_8.index t a * S1664x512.size a + (y a : ℕ) := by
  rw [View.emb_slice]
  show ((win0_8.rect t).emb y a : ℕ) = _
  rw [Rect.emb_apply]
  show win0_8.index t a * S1664x512.size a + 1 * (y a : ℕ) = _
  omega

end Cert.SwaHost

end
-- ==== Proof.SwaRef.lean ====
module

public import proofs.«01_k».proof.Proof.Gen.ReferenceIdeal.Read
public import Idealize.ShloMosaic.Lib.WordCmp
public import proofs.«01_k».proof.Proof.SwaSpec

@[expose] public section

set_option maxRecDepth 16384

noncomputable section

namespace Cert.SwaRef

open Cert.ReferenceIdeal Cert.ReferenceIdeal.Gen Cert.ReferenceIdeal.Read
open Idealize.ShloMosaic Idealize.ShloMosaic.TcCoe Idealize.SL.Sem Cert.SwaSpec

variable (x0 : FVec Ideal S33280x2304 .bf16) (x1 : FVec Ideal S8 .f32)

/-- The row of the padded arrays that row `r` of block `n` of a batch sits in. -/
abbrev src (b : Fin 4) (n : Fin 65) (r : Fin 128) : Fin 33280 := ⟨b.val * 8320 + (n.val * 128 + r.val), by omega⟩

/-- The queries, scaled. -/
theorem q_at (b : Fin 4) (n : Fin 65) (r : Fin 128) (kv : Fin 2) (g : Fin 4) (d : Fin 64) :
    val_main_v10 (F := Ideal) x0 (ix6 b n r kv g d) = x0 (ix2 (src b n r) ⟨(kv.val * 4 + g.val) * 64 + d.val, by omega⟩) * scale := by
  have hs : Ideal.ofBits .f32 0x3E000000#32 = Ideal.ofBits .bf16 0x3E00#16 := by
    simp only [Ideal.ofBits, Ideal.ieee]; simp; norm_cast; norm_num
  pointwise [val_main_v10, val_main_v9, val_main_cst, val_main_v8, val_main_v3, val_main_v2, val_main_v1, val_main_v0, scale, hs]
  exact congrArg (fun z => x0 (ix2 _ z) * _) (Fin.ext (by dsimp only; omega))

/-- The keys of a query's own block. -/
theorem kcur_at (b : Fin 4) (n : Fin 65) (k : Fin 128) (kv : Fin 2) (d : Fin 64) :
    val_main_v11 (F := Ideal) x0 (ix5 b n k kv d) = x0 (ix2 (src b n k) ⟨512 + (kv.val * 64 + d.val), by omega⟩) := by
  pointwise [val_main_v11, val_main_v5, val_main_v4, val_main_v1, val_main_v0]

/-- The values of a query's own block. -/
theorem vcur_at (b : Fin 4) (n : Fin 65) (k : Fin 128) (kv : Fin 2) (d : Fin 64) :
    val_main_v12 (F := Ideal) x0 (ix5 b n k kv d) = x0 (ix2 (src b n k) ⟨640 + (kv.val * 64 + d.val), by omega⟩) := by
  pointwise [val_main_v12, val_main_v7, val_main_v6, val_main_v1, val_main_v0]

/-- The keys of the block before. -/
theorem kprev_at (b : Fin 4) (n : Fin 65) (hn : 1 ≤ n.val) (k : Fin 128) (kv : Fin 2) (d : Fin 64) :
    val_main_v14 (F := Ideal) x0 (ix5 b n k kv d)
      = x0 (ix2 (src b ⟨n.val - 1, by omega⟩ k) ⟨512 + (kv.val * 64 + d.val), by omega⟩) := by
  refine Eq.trans ?_ (kcur_at x0 b ⟨n.val - 1, by omega⟩ k kv d)
  pointwise [val_main_v14, val_main_v13]
  exact dif_pos ⟨hn, by omega⟩

/-- The values of the block before. -/
theorem vprev_at (b : Fin 4) (n : Fin 65) (hn : 1 ≤ n.val) (k : Fin 128) (kv : Fin 2) (d : Fin 64) :
    val_main_v16 (F := Ideal) x0 (ix5 b n k kv d)
      = x0 (ix2 (src b ⟨n.val - 1, by omega⟩ k) ⟨640 + (kv.val * 64 + d.val), by omega⟩) := by
  refine Eq.trans ?_ (vcur_at x0 b ⟨n.val - 1, by omega⟩ k kv d)
  pointwise [val_main_v16, val_main_v15]
  exact dif_pos ⟨hn, by omega⟩

/-- The keys of the meta tokens. -/
theorem kmeta_at (b : Fin 4) (n : Fin 65) (j : Fin 16) (kv : Fin 2) (d : Fin 64) :
    val_main_v19 (F := Ideal) x0 (ix5 b n j kv d)
      = x0 (ix2 (src b 0 ⟨112 + j.val, by omega⟩) ⟨512 + (kv.val * 64 + d.val), by omega⟩) := by
  pointwise [val_main_v19, val_main_v18, val_main_v17, val_main_v5, val_main_v4, val_main_v1, val_main_v0]
  exact congrArg (fun z => x0 (ix2 z _)) (Fin.ext (by dsimp only [src]; simp))

/-- The values of the meta tokens. -/
theorem vmeta_at (b : Fin 4) (n : Fin 65) (j : Fin 16) (kv : Fin 2) (d : Fin 64) :
    val_main_v22 (F := Ideal) x0 (ix5 b n j kv d)
      = x0 (ix2 (src b 0 ⟨112 + j.val, by omega⟩) ⟨640 + (kv.val * 64 + d.val), by omega⟩) := by
  pointwise [val_main_v22, val_main_v21, val_main_v20, val_main_v7, val_main_v6, val_main_v1, val_main_v0]
  exact congrArg (fun z => x0 (ix2 z _)) (Fin.ext (by dsimp only [src]; simp))

theorem cat_meta {α : Type} (x : S4x65x16x2x64.Idx → α) (y z : S4x65x128x2x64.Idx → α) (b : Fin 4) (n : Fin 65) (j : Fin 16) (kv : Fin 2) (d : Fin 64) :
    concatenate S4x65x272x2x64 2 [⟨S4x65x16x2x64, x⟩, ⟨S4x65x128x2x64, y⟩, ⟨S4x65x128x2x64, z⟩]
      concatenates_S4x65x16x2x64_S4x65x128x2x64_S4x65x128x2x64_S4x65x272x2x64_d2 (ix5 b n ⟨j.val, by omega⟩ kv d) = x (ix5 b n j kv d) := by
  pointwise []

theorem cat_prev {α : Type} (x : S4x65x16x2x64.Idx → α) (y z : S4x65x128x2x64.Idx → α) (b : Fin 4) (n : Fin 65) (k : Fin 128) (kv : Fin 2) (d : Fin 64) :
    concatenate S4x65x272x2x64 2 [⟨S4x65x16x2x64, x⟩, ⟨S4x65x128x2x64, y⟩, ⟨S4x65x128x2x64, z⟩]
      concatenates_S4x65x16x2x64_S4x65x128x2x64_S4x65x128x2x64_S4x65x272x2x64_d2 (ix5 b n ⟨16 + k.val, by omega⟩ kv d) = y (ix5 b n k kv d) := by
  pointwise []

theorem cat_cur {α : Type} (x : S4x65x16x2x64.Idx → α) (y z : S4x65x128x2x64.Idx → α) (b : Fin 4) (n : Fin 65) (k : Fin 128) (kv : Fin 2) (d : Fin 64) :
    concatenate S4x65x272x2x64 2 [⟨S4x65x16x2x64, x⟩, ⟨S4x65x128x2x64, y⟩, ⟨S4x65x128x2x64, z⟩]
      concatenates_S4x65x16x2x64_S4x65x128x2x64_S4x65x128x2x64_S4x65x272x2x64_d2 (ix5 b n ⟨144 + k.val, by omega⟩ kv d) = z (ix5 b n k kv d) := by
  pointwise []
  rw [dif_neg (by omega), dif_neg (by omega)]
  exact congrArg (fun w => z (ix5 b n w kv d)) (Fin.ext (by dsimp only; omega))

/-- The score of a key against a query. -/
theorem score_at (b : Fin 4) (n : Fin 65) (kv : Fin 2) (g : Fin 4) (r : Fin 128) (k : Fin 272) :
    val_main_v69 (F := Ideal) x0 (ix6 b n kv g r k)
      = ∑ d : Fin 64, val_main_v23 (F := Ideal) x0 (ix5 b n k kv d) * val_main_v10 (F := Ideal) x0 (ix6 b n r kv g d) := by
  pointwise [val_main_v69, val_main_v68]

/-- The scores with the hidden keys' cleared. -/
theorem masked_at (b : Fin 4) (n : Fin 65) (kv : Fin 2) (g : Fin 4) (r : Fin 128) (k : Fin 272) :
    val_main_v71 (F := Ideal) x0 (ix6 b n kv g r k)
      = Scalar.select (val_main_v67 (F := Ideal) (ix3 n r k)) (val_main_v69 (F := Ideal) x0 (ix6 b n kv g r k)) (⊥ : EReal) := by
  have h : Ideal.ofBits .f32 0xFF800000#32 = ⊥ := by simp [Ideal.ofBits, Ideal.ieee]
  pointwise [val_main_v71, val_main_v70, val_main_call2_v0, val_main_call2_v1, val_main_call2_v2, val_main_cst_8, h]
  exact congrArg (Scalar.select _ _) h

/-- The word of a position in a sequence: a block's number times its length, and the row in it. -/
theorem pos_word (n r : ℕ) (hn : n < 65) (hr : r < 128) :
    IntOp.addi (IntOp.muli (BitVec.ofNat 32 n) 128#32) (BitVec.ofNat 32 r) = BitVec.ofInt 32 ((n : ℤ) * 128 + r) := by
  apply BitVec.eq_of_toNat_eq
  simp only [IntOp.addi, IntOp.muli, BitVec.toNat_add, BitVec.toNat_mul, BitVec.toNat_ofNat, BitVec.toNat_ofInt]
  omega

/-- The word of a key's position: the row `k` counted from the block before block `n`. -/
theorem key_word (n k : ℕ) (hn : n < 65) (hk : k < 256) :
    IntOp.addi (IntOp.muli (IntOp.subi (BitVec.ofNat 32 n) 1#32) 128#32) (BitVec.ofNat 32 k)
      = BitVec.ofInt 32 ((n : ℤ) * 128 - 128 + k) := by
  apply BitVec.eq_of_toNat_eq
  simp only [IntOp.addi, IntOp.muli, IntOp.subi, BitVec.toNat_add, BitVec.toNat_mul, BitVec.toNat_sub, BitVec.toNat_ofNat, BitVec.toNat_ofInt]
  omega

theorem sub_word (i j : ℤ) : IntOp.subi (BitVec.ofInt 32 i) (BitVec.ofInt 32 j) = BitVec.ofInt 32 (i - j) := by
  apply BitVec.eq_of_toNat_eq
  simp only [IntOp.subi, BitVec.toNat_sub, BitVec.toNat_ofInt]
  omega

theorem toInt_word (i : ℤ) (h : -100000 < i ∧ i < 100000) : (BitVec.ofInt 32 i).toInt = i := by
  rw [BitVec.toInt_ofInt, Int.bmod_eq_of_le] <;> omega

theorem sge_word (i j : ℤ) (hi : -100000 < i ∧ i < 100000) (hj : -100000 < j ∧ j < 100000) :
    IntOp.cmpi .sge (BitVec.ofInt 32 i) (BitVec.ofInt 32 j) = BitVec.ofBool (decide (j ≤ i)) := by
  simp only [IntOp.cmpi, BitVec.sle, toInt_word i hi, toInt_word j hj]

theorem sle_word (i j : ℤ) (hi : -100000 < i ∧ i < 100000) (hj : -100000 < j ∧ j < 100000) :
    IntOp.cmpi .sle (BitVec.ofInt 32 i) (BitVec.ofInt 32 j) = BitVec.ofBool (decide (i ≤ j)) := by
  simp only [IntOp.cmpi, BitVec.sle, toInt_word i hi, toInt_word j hj]

theorem slt_word (i j : ℤ) (hi : -100000 < i ∧ i < 100000) (hj : -100000 < j ∧ j < 100000) :
    IntOp.cmpi .slt (BitVec.ofInt 32 i) (BitVec.ofInt 32 j) = BitVec.ofBool (decide (i < j)) := by
  simp only [IntOp.cmpi, BitVec.slt, toInt_word i hi, toInt_word j hj]

theorem and_word (p q : Prop) [Decidable p] [Decidable q] :
    IntOp.andi (BitVec.ofBool (decide p)) (BitVec.ofBool (decide q)) = BitVec.ofBool (decide (p ∧ q)) := by
  by_cases h : p <;> by_cases h' : q <;> simp [h, h', IntOp.andi]

/-- Which keys of the block before and of the own block are visible. -/
theorem band_at (n : Fin 65) (r : Fin 128) (k : Fin 256) :
    val_main_v58 (F := Ideal) (ix3 n r k)
      = BitVec.ofBool (decide ((k.val ≤ 128 + r.val ∧ r.val < k.val) ∧ 256 ≤ n.val * 128 + k.val)) := by
  pointwise [val_main_v58, val_main_v57, val_main_v56, val_main_v55, val_main_v54, val_main_v53, val_main_v52, val_main_v51,
    val_main_v50, val_main_v49, val_main_v48, val_main_v47, val_main_v46, val_main_v45, val_main_v44, val_main_v43, val_main_v42,
    val_main_v41, val_main_v40, val_main_v39, val_main_v38, val_main_v37, val_main_v36, val_main_v35, val_main_v34, val_main_v33,
    val_main_v32, val_main_v31, val_main_v30, val_main_v29, val_main_v28, val_main_v27, val_main_v26, val_main_v25,
    val_main_c_1, val_main_c_2, val_main_c_3, val_main_c_4, val_main_c_5, val_main_c_6]
  rw [pos_word _ _ n.isLt r.isLt, key_word _ _ n.isLt k.isLt, sub_word, show (0#32 : BitVec 32) = BitVec.ofInt 32 0 from rfl,
    show (128#32 : BitVec 32) = BitVec.ofInt 32 128 from rfl, sge_word _ _ (by omega) (by omega), slt_word _ _ (by omega) (by omega),
    sge_word _ _ (by omega) (by omega), and_word, and_word]
  refine congrArg BitVec.ofBool (decide_eq_decide.2 ?_)
  omega

/-- Which meta keys are visible. -/
theorem meta_at (n : Fin 65) (r : Fin 128) (j : Fin 16) :
    val_main_v66 (F := Ideal) (ix3 n r j) = BitVec.ofBool (decide (112 + j.val ≤ n.val * 128 + r.val)) := by
  pointwise [val_main_v66, val_main_v65, val_main_v64, val_main_v63, val_main_v62, val_main_v61, val_main_v60, val_main_v59, val_main_c_7,
    val_main_v33, val_main_v32, val_main_v31, val_main_v30, val_main_v29, val_main_v28, val_main_v27, val_main_v26, val_main_v25, val_main_c_1]
  have h : IntOp.addi (112#32) (BitVec.ofNat 32 j.val) = BitVec.ofInt 32 (112 + j.val) := by
    apply BitVec.eq_of_toNat_eq
    simp only [IntOp.addi, BitVec.toNat_add, BitVec.toNat_ofNat, BitVec.toNat_ofInt]
    omega
  rw [pos_word _ _ n.isLt r.isLt, h, sle_word _ _ (by omega) (by omega)]
  refine congrArg BitVec.ofBool (decide_eq_decide.2 ?_)
  omega

theorem mask_meta (n : Fin 65) (r : Fin 128) (j : Fin 16) :
    val_main_v67 (F := Ideal) (ix3 n r ⟨j.val, by omega⟩) = BitVec.ofBool (decide (1 ≤ n.val ∨ 112 + j.val ≤ r.val)) := by
  refine Eq.trans ?_ ((meta_at n r j).trans (congrArg BitVec.ofBool (decide_eq_decide.2 (by omega))))
  unfold val_main_v67
  generalize val_main_v66 (F := Ideal) = x
  generalize val_main_v58 (F := Ideal) = y
  pointwise []

theorem mask_prev (n : Fin 65) (r k : Fin 128) :
    val_main_v67 (F := Ideal) (ix3 n r ⟨16 + k.val, by omega⟩) = BitVec.ofBool (decide (r.val < k.val ∧ 2 ≤ n.val)) := by
  refine Eq.trans ?_ ((band_at n r ⟨k.val, by omega⟩).trans (congrArg BitVec.ofBool (decide_eq_decide.2 (by dsimp only; omega))))
  unfold val_main_v67
  generalize val_main_v66 (F := Ideal) = x
  generalize val_main_v58 (F := Ideal) = y
  pointwise []

theorem mask_cur (n : Fin 65) (r k : Fin 128) :
    val_main_v67 (F := Ideal) (ix3 n r ⟨144 + k.val, by omega⟩) = BitVec.ofBool (decide (k.val ≤ r.val ∧ 1 ≤ n.val)) := by
  refine Eq.trans ?_ ((band_at n r ⟨128 + k.val, by omega⟩).trans (congrArg BitVec.ofBool (decide_eq_decide.2 (by dsimp only; omega))))
  unfold val_main_v67
  generalize val_main_v66 (F := Ideal) = x
  generalize val_main_v58 (F := Ideal) = y
  pointwise []
  rw [dif_neg (by omega)]
  exact congrArg (fun w => y (ix3 n r w)) (Fin.ext (by dsimp only; omega))

end Cert.SwaRef

end
-- ==== Proof.SwaSoft.lean ====
module

public import proofs.«01_k».proof.Proof.Gen.ReferenceIdeal.Read
public import Idealize.ShloMosaic.Lib.WordCmp
public import proofs.«01_k».proof.Proof.SwaRef

@[expose] public section

set_option maxRecDepth 16384

noncomputable section

namespace Cert.SwaSoft

open Cert.ReferenceIdeal Cert.ReferenceIdeal.Gen Cert.ReferenceIdeal.Read
open Idealize.ShloMosaic Idealize.ShloMosaic.TcCoe Idealize.SL.Sem Cert.SwaSpec
open Cert.SwaRef (src)

variable (x0 : FVec Ideal S33280x2304 .bf16) (x1 : FVec Ideal S8 .f32)

/-- A maximum over the last of six axes. -/
theorem fold_at (y : FVec Ideal S4x65x2x4x128x273 .f32) (z : FVec Ideal S_ .f32) (hz : z (Shape.Idx.first h_S_) = (⊥ : EReal))
    (b : Fin 4) (n : Fin 65) (kv : Fin 2) (g : Fin 4) (r : Fin 128) :
    Host.reduce (FloatOps.maximumf (F := Ideal) (φ := .f32)) y z reducesTo_S4x65x2x4x128x273_S4x65x2x4x128_d5 h_S_ (ix5 b n kv g r)
      = Finset.univ.fold max (⊥ : EReal) fun k : Fin 273 => y (ix6 b n kv g r k) := by
  rw [Host.reduce_eq_fold_single (FloatOps.maximumf (F := Ideal) (φ := .f32)) y z reducesTo_S4x65x2x4x128x273_S4x65x2x4x128_d5 (by decide) h_S_, hz]
  refine congrArg (fun f => Finset.univ.fold max (⊥ : EReal) f) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The largest score of a query, its sink's included. -/
theorem top_at (b : Fin 4) (n : Fin 65) (kv : Fin 2) (g : Fin 4) (r : Fin 128) :
    val_main_v77 (F := Ideal) x0 x1 (ix5 b n kv g r)
      = Finset.univ.fold max ⊥ fun k : Fin 273 => val_main_v74 (F := Ideal) x0 x1 (ix6 b n kv g r k) := by
  have h : Ideal.ofBits .f32 0xFF800000#32 = ⊥ := by simp [Ideal.ofBits, Ideal.ieee]
  rw [val_main_v77_apply, val_main_v76_apply, val_main_cst_10_apply]
  refine (congrArg (fun z => max z (val_main_v75 (F := Ideal) x0 x1 (ix5 b n kv g r))) h).trans ?_
  rw [max_eq_right bot_le]
  exact fold_at (val_main_v74 (F := Ideal) x0 x1) _ h b n kv g r

/-- The weight of one key. -/
theorem exp_at (b : Fin 4) (n : Fin 65) (kv : Fin 2) (g : Fin 4) (r : Fin 128) (k : Fin 273) :
    val_main_v81 (F := Ideal) x0 x1 (ix6 b n kv g r k)
      = Ideal.exp (val_main_v74 (F := Ideal) x0 x1 (ix6 b n kv g r k) - val_main_v77 (F := Ideal) x0 x1 (ix5 b n kv g r)) := by
  unfold val_main_v81 val_main_v80 val_main_v79 val_main_v78
  generalize val_main_v77 (F := Ideal) x0 x1 = t
  generalize val_main_v74 (F := Ideal) x0 x1 = y
  pointwise []

/-- The sum of the weights. -/
theorem den_at (b : Fin 4) (n : Fin 65) (kv : Fin 2) (g : Fin 4) (r : Fin 128) :
    val_main_v82 (F := Ideal) x0 x1 (ix5 b n kv g r) = ∑ k : Fin 273, val_main_v81 (F := Ideal) x0 x1 (ix6 b n kv g r k) := by
  rw [val_main_v82_apply, val_main_cst_11_apply]
  refine (congrArg (· + _) (show (FloatOps.ofBits .f32 0x00000000#32 : Ideal .f32) = (0 : EReal) by simp [Ideal.ofBits, Ideal.ieee])).trans ?_
  rw [zero_add]
  generalize val_main_v81 (F := Ideal) x0 x1 = y
  refine Finset.sum_congr rfl fun k _ => congrArg y ?_
  funext a; match a with | ⟨0, _⟩ => rfl | ⟨1, _⟩ => rfl | ⟨2, _⟩ => rfl | ⟨3, _⟩ => rfl | ⟨4, _⟩ => rfl | ⟨5, _⟩ => rfl

/-- The normalised weight of one key. -/
theorem p_at (b : Fin 4) (n : Fin 65) (kv : Fin 2) (g : Fin 4) (r : Fin 128) (k : Fin 272) :
    val_main_v86 (F := Ideal) x0 x1 (ix6 b n kv g r k)
      = Ideal.div (val_main_v81 (F := Ideal) x0 x1 (ix6 b n kv g r ⟨k.val, by omega⟩)) (val_main_v82 (F := Ideal) x0 x1 (ix5 b n kv g r)) := by
  unfold val_main_v86 val_main_v85 val_main_v84 val_main_v83
  generalize val_main_v81 (F := Ideal) x0 x1 = y
  generalize val_main_v82 (F := Ideal) x0 x1 = z
  pointwise []

/-- The reference's result, read at an index. -/
theorem out_at (b : Fin 4) (n : Fin 65) (kv : Fin 2) (g : Fin 4) (r : Fin 128) (e : Fin 64) :
    val_main_v91 (F := Ideal) x0 x1 (ix2 (src b n r) ⟨g.val * 128 + (kv.val * 64 + e.val), by omega⟩)
      = ∑ k : Fin 272, val_main_v24 (F := Ideal) x0 (ix5 b n k kv e) * val_main_v86 (F := Ideal) x0 x1 (ix6 b n kv g r k) := by
  have h : val_main_v90 (F := Ideal) x0 x1 (ix2 (src b n r) ⟨g.val * 128 + (kv.val * 64 + e.val), by omega⟩)
      = val_main_v89 (F := Ideal) x0 x1 (ix6 b n r g kv e) := by
    unfold val_main_v90
    generalize val_main_v89 (F := Ideal) x0 x1 = y
    pointwise []
    exact congrArg y (by congr 1 <;> apply Fin.ext <;> dsimp only <;> omega)
  rw [val_main_v91_apply]
  refine h.trans ?_
  rw [val_main_v89_apply, val_main_v88_apply, val_main_v87_apply]
  refine Finset.sum_congr rfl fun k _ => congrArg₂ (· * ·) (congrArg _ ?_) (congrArg _ ?_)
  · funext a; match a with | ⟨0, _⟩ => rfl | ⟨1, _⟩ => rfl | ⟨2, _⟩ => rfl | ⟨3, _⟩ => rfl | ⟨4, _⟩ => rfl
  · funext a; match a with | ⟨0, _⟩ => rfl | ⟨1, _⟩ => rfl | ⟨2, _⟩ => rfl | ⟨3, _⟩ => rfl | ⟨4, _⟩ => rfl | ⟨5, _⟩ => rfl

/-- The scores and the sink in one row: a key. -/
theorem row_key (b : Fin 4) (n : Fin 65) (kv : Fin 2) (g : Fin 4) (r : Fin 128) (k : Fin 272) :
    val_main_v74 (F := Ideal) x0 x1 (ix6 b n kv g r ⟨k.val, by omega⟩) = val_main_v71 (F := Ideal) x0 (ix6 b n kv g r k) := by
  unfold val_main_v74
  generalize val_main_v71 (F := Ideal) x0 = y
  generalize val_main_v73 (F := Ideal) x1 = z
  pointwise []

/-- The scores and the sink in one row: the sink. -/
theorem row_sink (b : Fin 4) (n : Fin 65) (kv : Fin 2) (g : Fin 4) (r : Fin 128) :
    val_main_v74 (F := Ideal) x0 x1 (ix6 b n kv g r ⟨272, by omega⟩) = x1 (ix1 ⟨kv.val * 4 + g.val, by omega⟩) := by
  have h : val_main_v73 (F := Ideal) x1 (ix6 b n kv g r 0) = x1 (ix1 ⟨kv.val * 4 + g.val, by omega⟩) := by
    rw [val_main_v73_apply]
    unfold val_main_v72
    pointwise []
  refine Eq.trans ?_ h
  unfold val_main_v74
  generalize val_main_v71 (F := Ideal) x0 = y
  generalize val_main_v73 (F := Ideal) x1 = z
  pointwise []

end Cert.SwaSoft

end
-- ==== Proof.SwaBridge.lean ====
module

public import proofs.«01_k».proof.Proof.SwaSpec

@[expose] public section

noncomputable section

namespace Cert.SwaBridge

open Idealize.ShloMosaic Cert.SwaSpec

theorem exp_nonneg (x : EReal) : 0 ≤ Ideal.exp x := by
  induction x with
  | bot => rw [Ideal.exp_bot]
  | top => rw [Ideal.exp_top]; exact le_top
  | coe r => rw [Ideal.exp_coe]; exact_mod_cast (Real.exp_pos r).le

theorem exp_pos {x : EReal} (h : x ≠ ⊥) : 0 < Ideal.exp x := by
  induction x with
  | bot => exact absurd rfl h
  | top => rw [Ideal.exp_top]; exact EReal.zero_lt_top
  | coe r => rw [Ideal.exp_coe]; exact_mod_cast Real.exp_pos r

theorem inv_ne_top {x : EReal} (h : 0 < x) : x⁻¹ ≠ ⊤ := by
  induction x with
  | bot => exact absurd h (by simp)
  | top => simp
  | coe r => rw [← EReal.coe_inv]; exact EReal.coe_ne_top _

theorem sum_mul {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A sum over the keys of a query row is a sum over the meta keys, one over the block before and one over the own block. -/
theorem sum_keys (f : Fin 272 → EReal) :
    ∑ k, f k = (∑ j : Fin 16, f ⟨j.val, by omega⟩) + (∑ k : Fin 128, f ⟨16 + k.val, by omega⟩)
      + ∑ k : Fin 128, f ⟨144 + k.val, by omega⟩ :=
  (Fin.sum_univ_add (a := 16 + 128) (b := 128) f).trans
    (congrArg (· + _) (Fin.sum_univ_add (a := 16) (b := 128) fun i => f (Fin.castAdd 128 i)))

/-- A sum over the lanes of the meta block whose lanes without a meta token are zero. -/
theorem sum_meta (f : Fin 128 → EReal) (h : ∀ k : Fin 128, k.val < 112 → f k = 0) :
    ∑ k, f k = ∑ j : Fin 16, f ⟨112 + j.val, by omega⟩ := by
  refine (Fin.sum_univ_add (a := 112) (b := 16) f).trans ?_
  rw [Finset.sum_eq_zero fun k _ => h _ k.isLt, zero_add]
  rfl

variable {sc sp sm vc vp vm : Fin 128 → EReal} {sink : EReal} {w : Fin 273 → EReal} {v : Fin 272 → EReal}

/-- The two largest scores agree. -/
theorem top_eq (hm : ∀ j : Fin 16, w ⟨j.val, by omega⟩ = sm ⟨112 + j.val, by omega⟩) (hm0 : ∀ k : Fin 128, k.val < 112 → sm k = ⊥)
    (hp : ∀ k : Fin 128, w ⟨16 + k.val, by omega⟩ = sp k) (hc : ∀ k : Fin 128, w ⟨144 + k.val, by omega⟩ = sc k)
    (hs : w ⟨272, by omega⟩ = sink) : Finset.univ.fold max ⊥ w = top sc sp sm sink := by
  apply le_antisymm
  · refine Finset.fold_max_le _ |>.2 ⟨bot_le, fun k _ => ?_⟩
    rcases k with ⟨k, hk⟩
    unfold top
    by_cases h1 : k < 16
    · refine le_max_of_le_left (Finset.le_fold_max _ |>.2 (Or.inr ⟨⟨112 + k, by omega⟩, Finset.mem_univ _, ?_⟩))
      exact le_max_of_le_right (hm ⟨k, h1⟩).le
    by_cases h2 : k < 144
    · refine le_max_of_le_left (Finset.le_fold_max _ |>.2 (Or.inr ⟨⟨k - 16, by omega⟩, Finset.mem_univ _, ?_⟩))
      refine le_max_of_le_left (le_max_of_le_right ?_)
      rw [← hp]; exact (congrArg w (Fin.ext (by show k = 16 + (k - 16); omega))).le
    by_cases h3 : k < 272
    · refine le_max_of_le_left (Finset.le_fold_max _ |>.2 (Or.inr ⟨⟨k - 144, by omega⟩, Finset.mem_univ _, ?_⟩))
      refine le_max_of_le_left (le_max_of_le_left ?_)
      rw [← hc]; exact (congrArg w (Fin.ext (by show k = 144 + (k - 144); omega))).le
    · refine le_max_of_le_right ?_
      rw [← hs]; exact (congrArg w (Fin.ext (by show k = 272; omega))).le
  · have hw : ∀ k, w k ≤ Finset.univ.fold max ⊥ w := fun k => Finset.le_fold_max _ |>.2 (Or.inr ⟨k, Finset.mem_univ _, le_rfl⟩)
    refine max_le (Finset.fold_max_le _ |>.2 ⟨bot_le, fun k _ => max_le (max_le ?_ ?_) ?_⟩) (hs ▸ hw _)
    · rw [← hc]; exact hw _
    · rw [← hp]; exact hw _
    · by_cases h : k.val < 112
      · rw [hm0 k h]; exact bot_le
      · have := hm ⟨k.val - 112, by omega⟩
        rw [show k = ⟨112 + (k.val - 112), by omega⟩ from Fin.ext (by show k.val = 112 + (k.val - 112); omega), ← this]
        exact hw _

theorem top_ne (hc : ∀ k, sc k ≠ ⊤) (hp : ∀ k, sp k ≠ ⊤) (hm : ∀ k, sm k ≠ ⊤) (hs : sink ≠ ⊤) : top sc sp sm sink ≠ ⊤ := by
  refine (max_lt (Finset.fold_max_lt _ |>.2 ⟨bot_lt_top, fun k _ => ?_⟩) (lt_top_iff_ne_top.2 hs)).ne
  exact max_lt (max_lt (lt_top_iff_ne_top.2 (hc k)) (lt_top_iff_ne_top.2 (hp k))) (lt_top_iff_ne_top.2 (hm k))

theorem exp_hidden (M : EReal) : Ideal.exp (⊥ - M) = 0 := by
  rw [sub_eq_add_neg, EReal.bot_add, Ideal.exp_bot]

/-- The softmax over all the keys and the sink, each weight divided, is the attention with one division at the end. -/
theorem att_eq (hm : ∀ j : Fin 16, w ⟨j.val, by omega⟩ = sm ⟨112 + j.val, by omega⟩) (hm0 : ∀ k : Fin 128, k.val < 112 → sm k = ⊥)
    (hp : ∀ k : Fin 128, w ⟨16 + k.val, by omega⟩ = sp k) (hc : ∀ k : Fin 128, w ⟨144 + k.val, by omega⟩ = sc k)
    (hs : w ⟨272, by omega⟩ = sink)
    (hvm : ∀ j : Fin 16, v ⟨j.val, by omega⟩ = vm ⟨112 + j.val, by omega⟩)
    (hvp : ∀ k : Fin 128, sp k ≠ ⊥ → v ⟨16 + k.val, by omega⟩ = vp k) (hvc : ∀ k : Fin 128, v ⟨144 + k.val, by omega⟩ = vc k)
    (tc : ∀ k, sc k ≠ ⊤) (tp : ∀ k, sp k ≠ ⊤) (tm : ∀ k, sm k ≠ ⊤) (ts : sink ≠ ⊤) (bs : sink ≠ ⊥) :
    ∑ k : Fin 272, v k * Ideal.div (Ideal.exp (w ⟨k.val, by omega⟩ - Finset.univ.fold max ⊥ w))
        (∑ j : Fin 273, Ideal.exp (w j - Finset.univ.fold max ⊥ w)) = att sc sp sm sink vc vp vm := by
  have hM := top_eq (sc := sc) hm hm0 hp hc hs
  have hMt := top_ne tc tp tm ts
  rw [hM]
  unfold att
  generalize top sc sp sm sink = M at hM hMt
  have hden : ∑ j : Fin 273, Ideal.exp (w j - M) = denom sc sp sm sink M := by
    refine (Fin.sum_univ_add (a := 272) (b := 1) fun j => Ideal.exp (w j - M)).trans ?_
    rw [Fin.sum_univ_one]
    unfold denom
    refine congrArg₂ (· + ·) ?_ (congrArg (fun z => Ideal.exp (z - M)) hs)
    refine (sum_keys fun k => Ideal.exp (w (Fin.castAdd 1 k) - M)).trans ?_
    rw [Finset.sum_add_distrib, Finset.sum_add_distrib, sum_meta (fun k => Ideal.exp (sm k - M)) fun k hk => by rw [hm0 k hk, exp_hidden]]
    rw [add_comm (∑ k, Ideal.exp (sc k - M)), add_comm _ (∑ j : Fin 16, Ideal.exp (sm _ - M)), ← add_assoc]
    refine congrArg₂ (· + ·) (congrArg₂ (· + ·) ?_ ?_) ?_ <;> refine Finset.sum_congr rfl fun k _ => congrArg (fun z => Ideal.exp (z - M)) ?_
    · exact hm k
    · exact hp k
    · exact hc k
  rw [hden]
  have hpos : 0 < denom sc sp sm sink M := by
    refine lt_of_lt_of_le (exp_pos (x := sink - M) ?_) (le_add_of_nonneg_left (Finset.sum_nonneg fun k _ =>
      add_nonneg (add_nonneg (exp_nonneg _) (exp_nonneg _)) (exp_nonneg _)))
    rw [sub_eq_add_neg, Ne, EReal.add_eq_bot_iff, EReal.neg_eq_bot_iff]
    exact not_or.2 ⟨bs, hMt⟩
  generalize denom sc sp sm sink M = D at hpos
  have hdiv : ∀ x, Ideal.div x D = x * D⁻¹ := fun x => if_neg hpos.ne'
  rw [hdiv, Finset.sum_congr rfl fun k _ => by rw [hdiv, ← mul_assoc],
    ← sum_mul Finset.univ (fun k : Fin 272 => v k * Ideal.exp (w ⟨k.val, by omega⟩ - M)) (EReal.inv_nonneg_of_nonneg hpos.le) (inv_ne_top hpos)]
  refine congrArg (· * D⁻¹) ?_
  refine (sum_keys fun k => v k * Ideal.exp (w ⟨k.val, by omega⟩ - M)).trans ?_
  unfold numer
  rw [sum_meta (fun k => Ideal.exp (sm k - M) * vm k) fun k hk => by rw [hm0 k hk, exp_hidden, zero_mul]]
  rw [add_comm (∑ k, Ideal.exp (sc k - M) * vc k), add_comm _ (∑ j : Fin 16, Ideal.exp (sm _ - M) * vm _), ← add_assoc]
  refine congrArg₂ (· + ·) (congrArg₂ (· + ·) ?_ ?_) ?_ <;> refine Finset.sum_congr rfl fun k _ => ?_
  · rw [hm, hvm, mul_comm]
  · rw [hp]
    by_cases h : sp k = ⊥
    · rw [h, exp_hidden, zero_mul, mul_zero]
    · rw [hvp k h, mul_comm]
  · rw [hc, hvc, mul_comm]

end Cert.SwaBridge

end
-- ==== Proof.SwaRow.lean ====
module

public import proofs.«01_k».proof.Proof.SwaRef
public import proofs.«01_k».proof.Proof.SwaSoft
public import proofs.«01_k».proof.Proof.SwaBridge

@[expose] public section

set_option maxRecDepth 16384

noncomputable section

namespace Cert.SwaRow

open Cert.ReferenceIdeal Cert.ReferenceIdeal.Read
open Idealize.ShloMosaic Idealize.ShloMosaic.TcCoe Idealize.SL.Sem Cert.SwaSpec

theorem select_seen (p : Prop) [Decidable p] (x : EReal) :
    Scalar.select (BitVec.ofBool (decide p)) x (⊥ : EReal) = seen p x := by
  by_cases h : p <;> simp [h, seen, Scalar.select]

theorem seen_ne_top (p : Prop) [Decidable p] (x : EReal) (h : x ≠ ⊤) : seen p x ≠ ⊤ := by
  unfold seen
  split
  · exact h
  · exact bot_ne_top

/-- A score of finite queries and keys isn't plus infinity. -/
theorem dotq_ne_top (q k : Fin 64 → EReal) (hq : ∀ d, q d ≠ ⊤ ∧ q d ≠ ⊥) (hk : ∀ d, k d ≠ ⊤ ∧ k d ≠ ⊥) : dotq q k ≠ ⊤ := by
  have hs : ∃ s : ℝ, scale = (s : EReal) := by
    refine ⟨128 * (2 ^ 10)⁻¹, ?_⟩
    simp [scale, Ideal.ofBits, Ideal.ieee]
  obtain ⟨s, hs⟩ := hs
  have e : dotq q k = ((∑ d, (q d).toReal * s * (k d).toReal : ℝ) : EReal) := by
    refine Eq.trans ?_ (map_sum (⟨⟨Real.toEReal, EReal.coe_zero⟩, EReal.coe_add⟩ : ℝ →+ EReal) _ _).symm
    refine Finset.sum_congr rfl fun d _ => ?_
    show _ = (((q d).toReal * s * (k d).toReal : ℝ) : EReal)
    rw [EReal.coe_mul, EReal.coe_mul, EReal.coe_toReal (hq d).1 (hq d).2, EReal.coe_toReal (hk d).1 (hk d).2, hs]
  rw [e]
  exact EReal.coe_ne_top _

variable (x0 : FVec Ideal S33280x2304 .bf16) (x1 : FVec Ideal S8 .f32)

/-- The queries and keys are finite: the first 640 columns of the projections. -/
def ProjFinite : Prop :=
  ∀ (R : Fin 33280) (k : Fin 640), x0 (ix2 R ⟨k.val, by omega⟩) ≠ (⊤ : EReal) ∧ x0 (ix2 R ⟨k.val, by omega⟩) ≠ (⊥ : EReal)

/-- The sinks are finite. -/
def SinksFinite : Prop := ∀ i, x1 (ix1 i) ≠ (⊤ : EReal) ∧ x1 (ix1 i) ≠ (⊥ : EReal)

open SwaRef in
/-- One score of the reference: a visible key's product with the query, minus infinity for a hidden key. -/
theorem w_at (b : Fin 4) (n : Fin 65) (kv : Fin 2) (g : Fin 4) (r : Fin 128) (k : Fin 272) (p : Prop) [Decidable p]
    (hp : val_main_v67 (F := Ideal) (ix3 n r k) = BitVec.ofBool (decide p)) (y : Fin 64 → EReal)
    (hy : p → ∀ d, val_main_v23 (F := Ideal) x0 (ix5 b n k kv d) = y d) :
    val_main_v74 (F := Ideal) x0 x1 (ix6 b n kv g r ⟨k.val, by omega⟩)
      = seen p (dotq (fun d => x0 (ix2 (src b n r) ⟨(kv.val * 4 + g.val) * 64 + d.val, by omega⟩)) y) := by
  rw [SwaSoft.row_key, masked_at, hp, select_seen]
  unfold seen
  split
  · rename_i h
    rw [score_at]
    exact Finset.sum_congr rfl fun d _ => by rw [hy h, q_at, mul_comm]
  · rfl

open SwaRef in
/-- The reference's result is the attention over the query's own block, the block before and the meta tokens. `P` names the rows of
    the block before, and need be right only where there is one. -/
theorem ref_at (hx : ProjFinite x0) (hz : SinksFinite x1)
    (b : Fin 4) (n : Fin 65) (kv : Fin 2) (g : Fin 4) (r : Fin 128) (e : Fin 64) (P : Fin 128 → Fin 33280)
    (hP : 2 ≤ n.val → ∀ k, P k = src b ⟨n.val - 1, by omega⟩ k) :
    val_main_v91 (F := Ideal) x0 x1 (ix2 (src b n r) ⟨g.val * 128 + (kv.val * 64 + e.val), by omega⟩)
      = att
        (fun k => seen (k.val ≤ r.val ∧ 1 ≤ n.val) (dotq (fun d => x0 (ix2 (src b n r) ⟨(kv.val * 4 + g.val) * 64 + d.val, by omega⟩))
          fun d => x0 (ix2 (src b n k) ⟨512 + (kv.val * 64 + d.val), by omega⟩)))
        (fun k => seen (r.val < k.val ∧ 2 ≤ n.val) (dotq (fun d => x0 (ix2 (src b n r) ⟨(kv.val * 4 + g.val) * 64 + d.val, by omega⟩))
          fun d => x0 (ix2 (P k) ⟨512 + (kv.val * 64 + d.val), by omega⟩)))
        (fun k => seen (112 ≤ k.val ∧ (1 ≤ n.val ∨ k.val ≤ r.val))
          (dotq (fun d => x0 (ix2 (src b n r) ⟨(kv.val * 4 + g.val) * 64 + d.val, by omega⟩))
            fun d => x0 (ix2 (src b 0 k) ⟨512 + (kv.val * 64 + d.val), by omega⟩)))
        (x1 (ix1 ⟨kv.val * 4 + g.val, by omega⟩)) (fun k => x0 (ix2 (src b n k) ⟨640 + (kv.val * 64 + e.val), by omega⟩))
        (fun k => x0 (ix2 (P k) ⟨640 + (kv.val * 64 + e.val), by omega⟩))
        (fun k => x0 (ix2 (src b 0 k) ⟨640 + (kv.val * 64 + e.val), by omega⟩)) := by
  have hq : ∀ d : Fin 64, x0 (ix2 (src b n r) ⟨(kv.val * 4 + g.val) * 64 + d.val, by omega⟩) ≠ (⊤ : EReal)
      ∧ x0 (ix2 (src b n r) ⟨(kv.val * 4 + g.val) * 64 + d.val, by omega⟩) ≠ (⊥ : EReal) :=
    fun d => hx _ ⟨(kv.val * 4 + g.val) * 64 + d.val, by omega⟩
  have hk : ∀ (R : Fin 33280) (d : Fin 64), x0 (ix2 R ⟨512 + (kv.val * 64 + d.val), by omega⟩) ≠ (⊤ : EReal)
      ∧ x0 (ix2 R ⟨512 + (kv.val * 64 + d.val), by omega⟩) ≠ (⊥ : EReal) :=
    fun R d => hx R ⟨512 + (kv.val * 64 + d.val), by omega⟩
  rw [SwaSoft.out_at]
  refine Eq.trans ?_ (SwaBridge.att_eq (w := fun k => val_main_v74 (F := Ideal) x0 x1 (ix6 b n kv g r k))
    (v := fun k => val_main_v24 (F := Ideal) x0 (ix5 b n k kv e)) ?_ ?_ ?_ ?_ ?_ ?_ ?_ ?_ ?_ ?_ ?_ ?_ ?_)
  · refine Finset.sum_congr rfl fun k _ => ?_
    rw [SwaSoft.p_at, SwaSoft.den_at, SwaSoft.exp_at, SwaSoft.top_at]
    refine congrArg (fun z => _ * Ideal.div _ z) (Finset.sum_congr rfl fun j _ => ?_)
    rw [SwaSoft.exp_at, SwaSoft.top_at]
  · intro j
    refine (w_at x0 x1 b n kv g r ⟨j.val, by omega⟩ _ (mask_meta n r j) _ fun _ d => (cat_meta _ _ _ b n j kv d).trans (kmeta_at x0 b n j kv d)).trans ?_
    unfold seen
    exact if_congr (by dsimp only; omega) rfl rfl
  · intro k hk
    exact if_neg (by omega)
  · intro k
    exact w_at x0 x1 b n kv g r ⟨16 + k.val, by omega⟩ _ (mask_prev n r k) _ fun h d =>
      ((cat_prev _ _ _ b n k kv d).trans (kprev_at x0 b n (by omega) k kv d)).trans (by rw [hP h.2])
  · intro k
    exact w_at x0 x1 b n kv g r ⟨144 + k.val, by omega⟩ _ (mask_cur n r k) _ fun _ d => (cat_cur _ _ _ b n k kv d).trans (kcur_at x0 b n k kv d)
  · exact SwaSoft.row_sink x0 x1 b n kv g r
  · intro j
    exact (cat_meta _ _ _ b n j kv e).trans (vmeta_at x0 b n j kv e)
  · intro k h
    have h2 : 2 ≤ n.val := by
      by_contra hc
      exact h (if_neg fun h => hc h.2)
    exact ((cat_prev _ _ _ b n k kv e).trans (vprev_at x0 b n (by omega) k kv e)).trans (by rw [hP h2])
  · intro k
    exact (cat_cur _ _ _ b n k kv e).trans (vcur_at x0 b n k kv e)
  · exact fun k => seen_ne_top _ _ (dotq_ne_top _ _ hq (hk _))
  · exact fun k => seen_ne_top _ _ (dotq_ne_top _ _ hq (hk _))
  · exact fun k => seen_ne_top _ _ (dotq_ne_top _ _ hq (hk _))
  · exact (hz _).1
  · exact (hz _).2

end Cert.SwaRow

end
-- ==== Proof.SwaValue.lean ====
module

public import proofs.«01_k».proof.Proof.SwaOut
public import proofs.«01_k».proof.Proof.SwaHost
public import proofs.«01_k».proof.Proof.SwaRow
public import Idealize.ShloMosaic.Lib.Pipeline.ValueKit

@[expose] public section

set_option maxRecDepth 16384

noncomputable section

namespace Cert.SwaValue

open Cert.KernelIdeal Cert.KernelIdeal.Gen
open Idealize.ShloMosaic Idealize.ShloMosaic.TcCoe Idealize.SL.Sem Cert.SwaSpec Cert.SwaOut
open Idealize.ShloMosaic.Pipeline (Dat)

/-- The word of a block's number in its sequence. -/
theorem block_word (n s : ℕ) (hn : n < 5) (hs : s < 13) :
    Scalar.addi (Scalar.muli (BitVec.ofNat 32 n) 13#32) (BitVec.ofNat 32 s) = BitVec.ofNat 32 (n * 13 + s) := by
  apply BitVec.eq_of_toNat_eq
  simp only [Scalar.addi, Scalar.muli, IntOp.addi, IntOp.muli, BitVec.toNat_add, BitVec.toNat_mul, BitVec.toNat_ofNat]
  omega

theorem qcut_at (X : FVec Ideal S1664x512 .bf16) (s : Fin 13) (b : Fin 4) (i l : Fin 128) :
    qcut X s b (ix2 i l) = X (ix2 ⟨s.val * 128 + i.val, by omega⟩ ⟨b.val * 128 + l.val, by omega⟩) :=
  congrArg X (emb_place s b i l)

theorem kcut_at (X : FVec Ideal S1664x128 .bf16) (s : Fin 13) (i l : Fin 128) :
    kcut X s (ix2 i l) = X (ix2 ⟨s.val * 128 + i.val, by omega⟩ l) := by
  refine congrArg X (funext fun a => ?_)
  fin_cases a
  · exact Fin.ext (by show s.val * 128 + 1 * i.val = s.val * 128 + i.val; omega)
  · exact Fin.ext (by show 0 + 1 * l.val = l.val; omega)

theorem scut_at (X : FVec Ideal S8 .f32) (i : Fin 8) : scut X i = X (ix1 i) := by
  refine congrArg X (funext fun a => ?_)
  fin_cases a
  exact Fin.ext (by show i.val + 1 * 0 = i.val; omega)

variable (m : (ℓ : Loc nD τ sig) → Buf (Elt Ideal) ℓ)

/-- The array row of row `k` of the block before block `s` of tile `t`. -/
def before (t : Fin cfg0.N) (s : Fin 13) (k : Fin 128) : Fin 33280 :=
  if s.val = 0 then SwaHost.prow t k else SwaHost.row t ⟨(s.val - 1) * 128 + k.val, by omega⟩

theorem prev_k (c : Dev nD) (t : Fin cfg0.N) (s : Fin 13) (k l : Fin 128) :
    pcut (iblk m c 3 t) (iblk m c 1 t) s (ix2 k l) = m ((c : Thread nD τ).loc main_arg0) (ix2 (before t s k) ⟨512 + l.val, by omega⟩) := by
  unfold pcut before
  split
  · exact SwaHost.blk3 m c t k l
  · rw [kcut_at]
    exact SwaHost.blk1 m c t _ l

theorem prev_v (c : Dev nD) (t : Fin cfg0.N) (s : Fin 13) (k l : Fin 128) :
    pcut (iblk m c 4 t) (iblk m c 2 t) s (ix2 k l) = m ((c : Thread nD τ).loc main_arg0) (ix2 (before t s k) ⟨640 + l.val, by omega⟩) := by
  unfold pcut before
  split
  · exact SwaHost.blk4 m c t k l
  · rw [kcut_at]
    exact SwaHost.blk2 m c t _ l

/-- The sequence a tile belongs to. -/
abbrev seq (t : Fin cfg0.N) : Fin 4 := ⟨t.val / 5, by have := SwaHost.lt20 t; omega⟩

/-- The number of block `s` of tile `t` in its sequence. -/
abbrev num (t : Fin cfg0.N) (s : Fin 13) : Fin 65 := ⟨t.val % 5 * 13 + s.val, by omega⟩

theorem row_src (t : Fin cfg0.N) (s : Fin 13) (i : Fin 128) :
    SwaHost.row t ⟨s.val * 128 + i.val, by omega⟩ = SwaRef.src (seq t) (num t s) i :=
  Fin.ext (by dsimp only; omega)

theorem mrow_src (t : Fin cfg0.N) (i : Fin 128) : SwaHost.mrow t i = SwaRef.src (seq t) 0 i :=
  Fin.ext (by dsimp only; omega)

theorem before_src (t : Fin cfg0.N) (s : Fin 13) (h : 2 ≤ (num t s).val) (k : Fin 128) :
    before t s k = SwaRef.src (seq t) ⟨(num t s).val - 1, by omega⟩ k := by
  dsimp only at h
  unfold before
  split <;> exact Fin.ext (by dsimp only; omega)

/-- The reference's result over the kernel's argument arrays. -/
def RES (c : Dev nD) : FVec Ideal S33280x512 .bf16 :=
  Cert.ReferenceIdeal.Read.val_main_v91 (F := Ideal) (m ((c : Thread nD τ).loc main_arg0)) (m ((c : Thread nD τ).loc main_arg1))

variable (hx : ∀ c : Dev nD, SwaRow.ProjFinite (m ((c : Thread nD τ).loc main_arg0)))
  (hz : ∀ c : Dev nD, SwaRow.SinksFinite (m ((c : Thread nD τ).loc main_arg1)))

include hx hz in
/-- What the kernel leaves of head pair `b`, block `s` of tile `t` is the reference's value there. -/
theorem point (c : Dev nD) (t : Fin cfg0.N) (s : Fin 13) (b : Fin 4) (i : Fin 128) (kv : Fin 2) (e : Fin 64) :
    outsAt0 m c t (ix2 ⟨s.val * 128 + i.val, by omega⟩ ⟨b.val * 128 + (kv.val * 64 + e.val), by omega⟩)
      = RES m c (ix2 (SwaHost.row t ⟨s.val * 128 + i.val, by omega⟩) ⟨b.val * 128 + (kv.val * 64 + e.val), by omega⟩) := by
  refine (out_at m c t s b i ⟨kv.val * 64 + e.val, by omega⟩).trans ?_
  unfold sub
  rw [(SwaHost.idx t).2.2.2.2.2.2.2.2.2.1, block_word _ _ (by omega) s.isLt]
  refine (SwaBlock.blk_at (t.val % 5 * 13 + s.val) (by omega) (qcut (X0_0 m c t) s) _ _ _ _ _ _
    (fun kv b => scut (iblk m c 7 t) ⟨kv.val * 4 + b.val, by omega⟩) b i kv e).trans ?_
  unfold RES
  rw [row_src]
  refine Eq.trans ?_ (SwaRow.ref_at _ _ (hx c) (hz c) (seq t) (num t s) kv b i e (before t s) (before_src t s)).symm
  have hq : ∀ d : Fin 64, qcut (X0_0 m c t) s b (ix2 i ⟨kv.val * 64 + d.val, by omega⟩)
      = m ((c : Thread nD τ).loc main_arg0) (ix2 (SwaRef.src (seq t) (num t s) i) ⟨(kv.val * 4 + b.val) * 64 + d.val, by omega⟩) := by
    intro d
    rw [qcut_at, SwaHost.blk0, row_src]
    exact congrArg (fun z => m ((c : Thread nD τ).loc main_arg0) (ix2 _ z)) (Fin.ext (by dsimp only; omega))
  have hk : ∀ (k l : Fin 128), kcut (iblk m c 1 t) s (ix2 k l)
      = m ((c : Thread nD τ).loc main_arg0) (ix2 (SwaRef.src (seq t) (num t s) k) ⟨512 + l.val, by omega⟩) := by
    intro k l
    rw [kcut_at, ← row_src]
    exact SwaHost.blk1 m c t _ l
  have hv : ∀ (k l : Fin 128), kcut (iblk m c 2 t) s (ix2 k l)
      = m ((c : Thread nD τ).loc main_arg0) (ix2 (SwaRef.src (seq t) (num t s) k) ⟨640 + l.val, by omega⟩) := by
    intro k l
    rw [kcut_at, ← row_src]
    exact SwaHost.blk2 m c t _ l
  have hkm : ∀ (k l : Fin 128), (iblk m c 5 t : FVec Ideal S128x128 .bf16) (ix2 k l)
      = m ((c : Thread nD τ).loc main_arg0) (ix2 (SwaRef.src (seq t) 0 k) ⟨512 + l.val, by omega⟩) := by
    intro k l
    rw [← mrow_src]
    exact SwaHost.blk5 m c t k l
  have hvm : ∀ (k l : Fin 128), (iblk m c 6 t : FVec Ideal S128x128 .bf16) (ix2 k l)
      = m ((c : Thread nD τ).loc main_arg0) (ix2 (SwaRef.src (seq t) 0 k) ⟨640 + l.val, by omega⟩) := by
    intro k l
    rw [← mrow_src]
    exact SwaHost.blk6 m c t k l
  have hs : scut (iblk m c 7 t) ⟨kv.val * 4 + b.val, by omega⟩
      = m ((c : Thread nD τ).loc main_arg1) (ix1 ⟨kv.val * 4 + b.val, by omega⟩) :=
    (scut_at _ _).trans (SwaHost.blk7 m c t _)
  simp only [hq, hk, hv, hkm, hvm, hs, prev_k, prev_v]

include hx hz in
/-- The same at any index of the tile. -/
theorem point' (c : Dev nD) (t : Fin cfg0.N) (y0 : Fin 1664) (y1 : Fin 512) :
    outsAt0 m c t (ix2 y0 y1) = RES m c (ix2 (SwaHost.row t y0) y1) := by
  have h := point m hx hz c t ⟨y0.val / 128, by omega⟩ ⟨y1.val / 128, by omega⟩ ⟨y0.val % 128, by omega⟩ ⟨y1.val % 128 / 64, by omega⟩
    ⟨y1.val % 64, by omega⟩
  have e0 : (⟨y0.val / 128 * 128 + y0.val % 128, by omega⟩ : Fin 1664) = y0 := Fin.ext (by dsimp only; omega)
  have e1 : (⟨y1.val / 128 * 128 + (y1.val % 128 / 64 * 64 + y1.val % 64), by omega⟩ : Fin 512) = y1 := Fin.ext (by dsimp only; omega)
  dsimp only at h
  rw [e0, e1] at h
  exact h

include hx hz in
/-- The kernel's result array is the reference's. -/
theorem final (c : Dev nD) : (dats m 0 c).arrAt 8 (cfgs 0).N = RES m c := by
  refine (dats m 0 c).arrAt_eq_of_covers 8 _ (by decide +kernel) fun t _ y => ?_
  blk_simp
  idx_vars y
  rw [after0_8, point' m hx hz]
  refine congrArg (RES m c) (funext fun a => Fin.ext ?_)
  have h := SwaHost.emb8 t (ix2 y0 y1) a
  rw [(SwaHost.idx t).2.2.2.2.2.2.2.2.1] at h
  refine Eq.trans ?_ h.symm
  fin_cases a
  · rfl
  · exact (by show y1.val = 0 * 512 + y1.val; omega)

end Cert.SwaValue

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelFfn.Frame
public import proofs.«01_k».proof.Proof.Gen.KernelFfnIdeal.Frame
public import proofs.«01_k».proof.Proof.Gen.KernelFfnIdeal.Value
public import proofs.«01_k».proof.Proof.Gen.ReferenceFfnIdeal.Run
public import proofs.«01_k».proof.Proof.Gen.ReferenceFfnIdeal.Read
public import proofs.«01_k».proof.Proof.Gen.KernelEven.Frame
public import proofs.«01_k».proof.Proof.Gen.KernelEvenIdeal.Frame
public import proofs.«01_k».proof.Proof.Gen.KernelEvenIdeal.Value
public import proofs.«01_k».proof.Proof.Gen.ReferenceEvenIdeal.Run
public import proofs.«01_k».proof.Proof.Gen.ReferenceEvenIdeal.Read
public import proofs.«01_k».proof.Proof.Gen.KernelOdd.Frame
public import proofs.«01_k».proof.Proof.Gen.KernelOddIdeal.Frame
public import proofs.«01_k».proof.Proof.Gen.KernelOddIdeal.Value
public import proofs.«01_k».proof.Proof.Gen.ReferenceOddIdeal.Run
public import proofs.«01_k».proof.Proof.Gen.ReferenceOddIdeal.Read
public import proofs.«01_k».proof.Proof.Gen.KernelFirst.Frame
public import proofs.«01_k».proof.Proof.Gen.KernelFirstIdeal.Frame
public import proofs.«01_k».proof.Proof.Gen.KernelFirstIdeal.Value
public import proofs.«01_k».proof.Proof.Gen.ReferenceFirstIdeal.Run
public import proofs.«01_k».proof.Proof.Gen.ReferenceFirstIdeal.Read
public import proofs.«01_k».proof.Proof.Gen.KernelProj.Frame
public import proofs.«01_k».proof.Proof.Gen.KernelProjIdeal.Frame
public import proofs.«01_k».proof.Proof.Gen.KernelProjIdeal.Value
public import proofs.«01_k».proof.Proof.Gen.ReferenceProjIdeal.Run
public import proofs.«01_k».proof.Proof.Gen.ReferenceProjIdeal.Read
public import proofs.«01_k».proof.Proof.FfnValue
public import proofs.«01_k».proof.Proof.EvenValue
public import proofs.«01_k».proof.Proof.OddValue
public import proofs.«01_k».proof.Proof.FirstValue
public import proofs.«01_k».proof.Proof.ProjValue
public import proofs.«01_k».proof.Proof.SwaPre
public import proofs.«01_k».proof.Proof.SwaValue
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The attention kernel and its ideal form differ by the masked score, which is minus infinity in the latter. -/
theorem preserves : Cert.preserves_Kernel_KernelIdeal :=
  IdealRules.named_const.statement Cert.KernelIdeal.κ "mask" .f32 0xF149F2CA#32 ⊥ rfl

/-- The feed-forward kernel and its reference end with equal results. -/
theorem algebraicFfn : Cert.algebraic_KernelFfnIdeal_ReferenceFfnIdeal := by
  pair_intro
  · run_from Cert.KernelFfnIdeal.Value.run_blocks m g
  · run_from Cert.ReferenceFfnIdeal.Value.run m' g'
    obtain ⟨h0, h1, h2, h3, h4, h5, h6, h7, h8, h9⟩ := hagree c
    rw [Cert.ReferenceFfnIdeal.Read.val_main_v58_eq, h0, h1, h2, h3, h4, h5, h6, h7, h8, h9]
    exact (FfnValue.final m c).symm

/-- The even layer's closing feed-forward kernel and its reference end with equal results. -/
theorem algebraicEven : Cert.algebraic_KernelEvenIdeal_ReferenceEvenIdeal := by
  pair_intro
  · run_from Cert.KernelEvenIdeal.Value.run_blocks m g
  · run_from Cert.ReferenceEvenIdeal.Value.run m' g'
    obtain ⟨h0, h1, h2, h3, h4, h5, h6, h7, h8, h9⟩ := hagree c
    rw [Cert.ReferenceEvenIdeal.Read.val_main_v51_eq, h0, h1, h2, h3, h4, h5, h6, h7, h8, h9]
    exact (EvenValue.final m c).symm

/-- The odd layer's opening feed-forward kernel and its reference end with equal results. -/
theorem algebraicOdd : Cert.algebraic_KernelOddIdeal_ReferenceOddIdeal := by
  pair_intro
  · run_from Cert.KernelOddIdeal.Value.run_blocks m g
  · run_from Cert.ReferenceOddIdeal.Value.run m' g'
    obtain ⟨h0, h1, h2, h3, h4, h5⟩ := hagree c
    rw [Cert.ReferenceOddIdeal.Read.val_main_v33_eq, h0, h1, h2, h3, h4, h5]
    exact (OddValue.final m c).symm

/-- The first feed-forward kernel and its reference end with equal results. -/
theorem algebraicFirst : Cert.algebraic_KernelFirstIdeal_ReferenceFirstIdeal := by
  pair_intro
  · run_from Cert.KernelFirstIdeal.Value.run_blocks m g
  · run_from Cert.ReferenceFirstIdeal.Value.run m' g'
    obtain ⟨h0, h1, h2, h3, h4, h5, h6⟩ := hagree c
    rw [Cert.ReferenceFirstIdeal.Read.val_main_v38_eq, h0, h1, h2, h3, h4, h5, h6]
    exact (FirstValue.final m c).symm

/-- The projection kernel and its reference end with equal results. -/
theorem algebraicProj : Cert.algebraic_KernelProjIdeal_ReferenceProjIdeal := by
  pair_intro
  · run_from Cert.KernelProjIdeal.Value.run_blocks m g
  · run_from Cert.ReferenceProjIdeal.Value.run m' g'
    obtain ⟨h0, h1, h2⟩ := hagree c
    rw [Cert.ReferenceProjIdeal.Read.val_main_v20_eq, h2]
    exact (ProjValue.final m c).symm

/-- The attention kernel and its reference end with equal results where the queries, the keys and the sinks are finite. -/
theorem algebraic [Cert.Pre_finite.Facts] : Cert.algebraic_KernelIdeal_ReferenceIdeal_pre_finite := by
  intro m g m' g' hpre hagree
  have hx : ∀ c : Dev Cert.KernelIdeal.nD, SwaRow.ProjFinite (m ((c.tc : Thread Cert.KernelIdeal.nD Cert.KernelIdeal.τ).loc Cert.KernelIdeal.main_arg0)) :=
    fun c => SwaPre.proj_finite _ _ (hpre c).1
  have hz : ∀ c : Dev Cert.KernelIdeal.nD, SwaRow.SinksFinite (m ((c.tc : Thread Cert.KernelIdeal.nD Cert.KernelIdeal.τ).loc Cert.KernelIdeal.main_arg1)) :=
    fun c => SwaPre.sinks_finite _ _ (hpre c).2
  refine ⟨fun c => SwaValue.RES m c, ?_, ?_⟩
  · run_from Cert.KernelIdeal.Value.run_blocks m g
    exact SwaValue.final m hx hz c
  · refine (θ_run _ _ _).mono (fun r h c => ⟨(h c).1.trans ?_, (h c).2⟩) (Cert.ReferenceIdeal.Value.run m' g')
    obtain ⟨h0, h1⟩ := hagree c
    rw [Cert.ReferenceIdeal.Read.val_main_v91_eq, h0, h1]
    rfl

/-- The attention reference ends in every run and leaves its arguments alone. -/
theorem frameReference : Cert.quiescent_ReferenceIdeal := by
  intro m g _
  run_from Cert.ReferenceIdeal.Value.run m g
  · exact fun _ => by simp only [and_self]
  · funext ⟨_, s⟩; rcases s with ⟨s⟩ | ⟨s⟩ <;> exact s.elim0

/-- The feed-forward reference ends in every run and leaves its arguments alone. -/
theorem frameReferenceFfn : Cert.quiescent_ReferenceFfnIdeal := by
  intro m g _
  run_from Cert.ReferenceFfnIdeal.Value.run m g
  · exact fun _ => by simp only [and_self]
  · funext ⟨_, s⟩; rcases s with ⟨s⟩ | ⟨s⟩ <;> exact s.elim0

/-- The even layer's closing feed-forward reference ends in every run and leaves its arguments alone. -/
theorem frameReferenceEven : Cert.quiescent_ReferenceEvenIdeal := by
  intro m g _
  run_from Cert.ReferenceEvenIdeal.Value.run m g
  · exact fun _ => by simp only [and_self]
  · funext ⟨_, s⟩; rcases s with ⟨s⟩ | ⟨s⟩ <;> exact s.elim0

/-- The odd layer's opening feed-forward reference ends in every run and leaves its arguments alone. -/
theorem frameReferenceOdd : Cert.quiescent_ReferenceOddIdeal := by
  intro m g _
  run_from Cert.ReferenceOddIdeal.Value.run m g
  · exact fun _ => by simp only [and_self]
  · funext ⟨_, s⟩; rcases s with ⟨s⟩ | ⟨s⟩ <;> exact s.elim0

/-- The first feed-forward reference ends in every run and leaves its arguments alone. -/
theorem frameReferenceFirst : Cert.quiescent_ReferenceFirstIdeal := by
  intro m g _
  run_from Cert.ReferenceFirstIdeal.Value.run m g
  · exact fun _ => by simp only [and_self]
  · funext ⟨_, s⟩; rcases s with ⟨s⟩ | ⟨s⟩ <;> exact s.elim0

/-- The projection reference ends in every run and leaves its arguments alone. -/
theorem frameReferenceProj : Cert.quiescent_ReferenceProjIdeal := by
  intro m g _
  run_from Cert.ReferenceProjIdeal.Value.run m g
  · exact fun _ => by simp only [and_self]
  · funext ⟨_, s⟩; rcases s with ⟨s⟩ | ⟨s⟩ <;> exact s.elim0

/-- All claims of the certificate. -/
theorem claim : Cert.Claim := by
  have := SwaPre.facts
  exact ⟨Cert.Kernel.Gen.facts, Cert.KernelIdeal.Gen.facts, Cert.ReferenceIdeal.Gen.facts, Cert.KernelFfn.Gen.facts,
    Cert.KernelFfnIdeal.Gen.facts, Cert.ReferenceFfnIdeal.Gen.facts,
    Cert.KernelEven.Gen.facts, Cert.KernelEvenIdeal.Gen.facts, Cert.ReferenceEvenIdeal.Gen.facts,
    Cert.KernelOdd.Gen.facts, Cert.KernelOddIdeal.Gen.facts, Cert.ReferenceOddIdeal.Gen.facts,
    Cert.KernelFirst.Gen.facts, Cert.KernelFirstIdeal.Gen.facts, Cert.ReferenceFirstIdeal.Gen.facts,
    Cert.KernelProj.Gen.facts, Cert.KernelProjIdeal.Gen.facts, Cert.ReferenceProjIdeal.Gen.facts,
    SwaPre.facts,
    fun m g _ => Cert.Kernel.Gen.frame m g, fun m g _ => Cert.KernelIdeal.Gen.frame m g, fun m g _ => Cert.KernelIdeal.Gen.frame m g,
    frameReference, fun m g _ => frameReference m g trivial,
    fun m g _ => Cert.KernelFfn.Gen.frame m g, fun m g _ => Cert.KernelFfnIdeal.Gen.frame m g, frameReferenceFfn,
    fun m g _ => Cert.KernelEven.Gen.frame m g, fun m g _ => Cert.KernelEvenIdeal.Gen.frame m g, frameReferenceEven,
    fun m g _ => Cert.KernelOdd.Gen.frame m g, fun m g _ => Cert.KernelOddIdeal.Gen.frame m g, frameReferenceOdd,
    fun m g _ => Cert.KernelFirst.Gen.frame m g, fun m g _ => Cert.KernelFirstIdeal.Gen.frame m g, frameReferenceFirst,
    fun m g _ => Cert.KernelProj.Gen.frame m g, fun m g _ => Cert.KernelProjIdeal.Gen.frame m g, frameReferenceProj,
    preserves, algebraic, trivial, algebraicFfn, trivial, algebraicEven, trivial, algebraicOdd, trivial, algebraicFirst, trivial, algebraicProj⟩

end Cert.Proof

end
